-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S48x1x4096 : Shape := ⟨3, ![48, 1, 4096]⟩
abbrev S14336x4096 : Shape := ⟨2, ![14336, 4096]⟩
abbrev S14336x32 : Shape := ⟨2, ![14336, 32]⟩
abbrev S_ : Shape := ⟨0, ![]⟩

class Facts : Prop where
  bcast_S_S48x1x4096 : S_.BroadcastsInDim S48x1x4096 (![] : Fin 0 → Fin S48x1x4096.rank)
  reducesTo_S48x1x4096_S_d0_1_2 : S48x1x4096.ReducesTo [0, 1, 2] S_
  h_S_ : 0 < S_.numel

variable [Facts]

def fn {F : FTy → Type} [FloatOps F] (main_arg0 : FVec F S48x1x4096 .bf16) (main_arg1 : FVec F S14336x4096 .fp8e4m3) (main_arg2 : FVec F S14336x32 .f32) : IVec S_ 1 :=
  let main_v0 : FVec F S48x1x4096 .bf16 := Host.absf main_arg0
  let main_cst : FVec F S_ .bf16 := constant S_ .bf16 0x7F7F#16
  let main_v1 : FVec F S48x1x4096 .bf16 := broadcastInDim S48x1x4096 ![] bcast_S_S48x1x4096 main_cst
  let main_v2 : IVec S48x1x4096 1 := cmpf .ole main_v0 main_v1
  let main_v3 : FVec F S48x1x4096 .bf16 := Host.absf main_arg0
  let main_cst_0 : FVec F S_ .bf16 := constant S_ .bf16 0x7F80#16
  let main_v4 : FVec F S48x1x4096 .bf16 := broadcastInDim S48x1x4096 ![] bcast_S_S48x1x4096 main_cst_0
  let main_v5 : IVec S48x1x4096 1 := cmpf .oeq main_v3 main_v4
  let main_v6 : IVec S48x1x4096 1 := ori main_v2 main_v5
  let main_c : IVec S_ 1 := constantI S_ 1 1#1
  let main_v7 : IVec S_ 1 := (fun x v => Host.reduce IntOp.andi x v reducesTo_S48x1x4096_S_d0_1_2 h_S_) main_v6 main_c
  main_v7
-- ==== Kernel.lean ====
abbrev S48x1x4096 : Shape := ⟨3, ![48, 1, 4096]⟩
abbrev S14336x4096 : Shape := ⟨2, ![14336, 4096]⟩
abbrev S14336x32 : Shape := ⟨2, ![14336, 32]⟩
abbrev S48x4096 : Shape := ⟨2, ![48, 4096]⟩
abbrev S32x14336 : Shape := ⟨2, ![32, 14336]⟩
abbrev S48x14336 : Shape := ⟨2, ![48, 14336]⟩
abbrev S48x32 : Shape := ⟨2, ![48, 32]⟩
abbrev S1024x4096 : Shape := ⟨2, ![1024, 4096]⟩
abbrev S32x1024 : Shape := ⟨2, ![32, 1024]⟩
abbrev S48x1024 : Shape := ⟨2, ![48, 1024]⟩
abbrev S16x96x256 : Shape := ⟨3, ![16, 96, 256]⟩
abbrev S32x48x128 : Shape := ⟨3, ![32, 48, 128]⟩
abbrev S48x128 : Shape := ⟨2, ![48, 128]⟩
abbrev S48 : Shape := ⟨1, ![48]⟩
abbrev S48x1 : Shape := ⟨2, ![48, 1]⟩
abbrev S1x48x128 : Shape := ⟨3, ![1, 48, 128]⟩
abbrev S96x128 : Shape := ⟨2, ![96, 128]⟩
abbrev S1x96x128 : Shape := ⟨3, ![1, 96, 128]⟩
abbrev S1x96x256 : Shape := ⟨3, ![1, 96, 256]⟩
abbrev S96x256 : Shape := ⟨2, ![96, 256]⟩
abbrev S256x256 : Shape := ⟨2, ![256, 256]⟩
abbrev S48x256 : Shape := ⟨2, ![48, 256]⟩
abbrev S1x256 : Shape := ⟨2, ![1, 256]⟩

abbrev nBuf : Space → Nat
  | .hbm => 8
  | .vmem => 11
  | .smem => 0
  | _ => 0

abbrev bufTy : (tb : Table) → Fin (tcTables nBuf tb) → BufTy
  | .hbm, ⟨0, _⟩ => ⟨S48x1x4096, .bf16⟩
  | .hbm, ⟨1, _⟩ => ⟨S14336x4096, .fp8e4m3⟩
  | .hbm, ⟨2, _⟩ => ⟨S14336x32, .f32⟩
  | .hbm, ⟨3, _⟩ => ⟨S48x4096, .bf16⟩
  | .hbm, ⟨4, _⟩ => ⟨S32x14336, .f32⟩
  | .hbm, ⟨5, _⟩ => ⟨S48x14336, .bf16⟩
  | .hbm, ⟨6, _⟩ => ⟨S48x4096, .fp8e4m3⟩
  | .hbm, ⟨7, _⟩ => ⟨S48x32, .f32⟩
  | .local _ .vmem, ⟨0, _⟩ => ⟨S48x4096, .bf16⟩
  | .local _ .vmem, ⟨1, _⟩ => ⟨S1024x4096, .fp8e4m3⟩
  | .local _ .vmem, ⟨2, _⟩ => ⟨S1024x4096, .fp8e4m3⟩
  | .local _ .vmem, ⟨3, _⟩ => ⟨S32x1024, .f32⟩
  | .local _ .vmem, ⟨4, _⟩ => ⟨S32x1024, .f32⟩
  | .local _ .vmem, ⟨5, _⟩ => ⟨S48x1024, .bf16⟩
  | .local _ .vmem, ⟨6, _⟩ => ⟨S48x1024, .bf16⟩
  | .local _ .vmem, ⟨7, _⟩ => ⟨S48x4096, .fp8e4m3⟩
  | .local _ .vmem, ⟨8, _⟩ => ⟨S48x32, .f32⟩
  | .local _ .vmem, ⟨9, _⟩ => ⟨S16x96x256, .fp8e4m3⟩
  | .local _ .vmem, ⟨10, _⟩ => ⟨S32x48x128, .f32⟩
  | _, _ => ⟨S48x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S48x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S48x1x4096 : Shape := ⟨3, ![48, 1, 4096]⟩
abbrev S14336x4096 : Shape := ⟨2, ![14336, 4096]⟩
abbrev S14336x32 : Shape := ⟨2, ![14336, 32]⟩
abbrev S48x4096 : Shape := ⟨2, ![48, 4096]⟩
abbrev S32x14336 : Shape := ⟨2, ![32, 14336]⟩
abbrev S48x14336 : Shape := ⟨2, ![48, 14336]⟩
abbrev S48x32 : Shape := ⟨2, ![48, 32]⟩
abbrev S48x32x128 : Shape := ⟨3, ![48, 32, 128]⟩
abbrev S48x32x1 : Shape := ⟨3, ![48, 32, 1]⟩
abbrev S48x128 : Shape := ⟨2, ![48, 128]⟩
abbrev S14336x128 : Shape := ⟨2, ![14336, 128]⟩
abbrev S48x1 : Shape := ⟨2, ![48, 1]⟩
abbrev S1x14336 : Shape := ⟨2, ![1, 14336]⟩

abbrev nBuf : Space → Nat
  | .hbm => 8
  | .vmem => 6
  | .smem => 0
  | _ => 0

abbrev bufTy : (tb : Table) → Fin (tcTables nBuf tb) → BufTy
  | .hbm, ⟨0, _⟩ => ⟨S48x1x4096, .bf16⟩
  | .hbm, ⟨1, _⟩ => ⟨S14336x4096, .fp8e4m3⟩
  | .hbm, ⟨2, _⟩ => ⟨S14336x32, .f32⟩
  | .hbm, ⟨3, _⟩ => ⟨S48x4096, .bf16⟩
  | .hbm, ⟨4, _⟩ => ⟨S32x14336, .f32⟩
  | .hbm, ⟨5, _⟩ => ⟨S48x14336, .bf16⟩
  | .hbm, ⟨6, _⟩ => ⟨S48x4096, .fp8e4m3⟩
  | .hbm, ⟨7, _⟩ => ⟨S48x32, .f32⟩
  | .local _ .vmem, ⟨0, _⟩ => ⟨S48x4096, .bf16⟩
  | .local _ .vmem, ⟨1, _⟩ => ⟨S14336x4096, .fp8e4m3⟩
  | .local _ .vmem, ⟨2, _⟩ => ⟨S32x14336, .f32⟩
  | .local _ .vmem, ⟨3, _⟩ => ⟨S48x14336, .bf16⟩
  | .local _ .vmem, ⟨4, _⟩ => ⟨S48x4096, .fp8e4m3⟩
  | .local _ .vmem, ⟨5, _⟩ => ⟨S48x32, .f32⟩
  | _, _ => ⟨S48x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S48x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KRuns.lean ====
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S48x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x32 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S16x96x256 .fp8e4m3 := Memref.whole cc0_scratch0
abbrev scM0_1 : Memref sig .tc .vmem S32x48x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KRunA.lean ====
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3836000 in
/-- The body's triple IN CASE A (`scf.if` 0 taken: points 0): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S48x4096 .bf16) (harg1 : arg1.IsWhole) (arg2 : Memref sig .tc .vmem S1024x4096 .fp8e4m3) (harg2 : arg2.IsWhole) (arg3 : Memref sig .tc .vmem S32x1024 .f32) (harg3 : arg3.IsWhole) (arg4 : Memref sig .tc .vmem S48x1024 .bf16) (harg4 : arg4.IsWhole) (arg5 : Memref sig .tc .vmem S48x4096 .fp8e4m3) (harg5 : arg5.IsWhole) (arg6 : Memref sig .tc .vmem S48x32 .f32) (harg6 : arg6.IsWhole) (arg7 : Memref sig .tc .vmem S16x96x256 .fp8e4m3) (harg7 : arg7.IsWhole) (arg8 : Memref sig .tc .vmem S32x48x128 .f32) (harg8 : arg8.IsWhole) (hc0 : cond0_0 i)
    (x0 : Vec F S48x4096 .bf16) (x1 : Vec F S1024x4096 .fp8e4m3) (x2 : Vec F S32x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_group_linear i arg1 harg1 arg2 harg2 arg3 harg3 arg4 harg4 arg5 harg5 arg6 harg6 arg7 harg7 arg8 harg8) K := by
    intro E K
    simp only [cc0_fp8_group_linear_eq_skeleton]; unfold cc0_fp8_group_linear_skel
    simp only [k0_part74_eq_skeleton, k0_part73_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Gen

end
-- ==== Proof.KRunB.lean ====
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1944000 in
/-- The body's triple IN CASE B (`scf.if` 0 not taken: points 1, 2, … 13: 13 of 14): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S48x4096 .bf16) (harg1 : arg1.IsWhole) (arg2 : Memref sig .tc .vmem S1024x4096 .fp8e4m3) (harg2 : arg2.IsWhole) (arg3 : Memref sig .tc .vmem S32x1024 .f32) (harg3 : arg3.IsWhole) (arg4 : Memref sig .tc .vmem S48x1024 .bf16) (harg4 : arg4.IsWhole) (arg5 : Memref sig .tc .vmem S48x4096 .fp8e4m3) (harg5 : arg5.IsWhole) (arg6 : Memref sig .tc .vmem S48x32 .f32) (harg6 : arg6.IsWhole) (arg7 : Memref sig .tc .vmem S16x96x256 .fp8e4m3) (harg7 : arg7.IsWhole) (arg8 : Memref sig .tc .vmem S32x48x128 .f32) (harg8 : arg8.IsWhole) (hc0 : ¬cond0_0 i)
    (x0 : Vec F S48x4096 .bf16) (x1 : Vec F S1024x4096 .fp8e4m3) (x2 : Vec F S32x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_group_linear i arg1 harg1 arg2 harg2 arg3 harg3 arg4 harg4 arg5 harg5 arg6 harg6 arg7 harg7 arg8 harg8) K := by
    intro E K
    simp only [cc0_fp8_group_linear_eq_skeleton]; unfold cc0_fp8_group_linear_skel
    simp only [k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Gen

end
-- ==== Proof.KFrameR.lean ====
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 14 := lt_of_lt_of_eq t.isLt (show cfg0.N = 14 from N_0)
  by_cases h0 : t.val % 14 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Runs.lean ====
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S48x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x32 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S16x96x256 .fp8e4m3 := Memref.whole cc0_scratch0
abbrev scM0_1 : Memref sig .tc .vmem S32x48x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Blocks.lean ====
/- What one grid point of the kernel leaves in the buffers it writes, spelled as functions of what it reads:
   group `i` of the quantiser (its exponent, its scale, its codes, its row of the padded left operand),
   and a column chunk of the product as the running sum over the groups. -/
module

public import proofs.«01_k».proof.Proof.Runs

@[expose] public section

set_option maxRecDepth 16384

noncomputable section

namespace Cert.KernelIdeal.Hand

open Idealize.ShloMosaic Idealize.ShloMosaic.TcCoe Cert.KernelIdeal Cert.KernelIdeal.Gen

variable {F : FTy → Type} [FloatOps F]

/-! ## The rectangles -/

/-- Columns `128 k …` of the rows of codes (and of `x`). -/
abbrev rC (k : ℕ) : Rect S48x4096 :=
  Rect.unit (s := S48x4096) ![0, 128 * (k % 32)] S48x128.size (by intro a; fin_cases a <;> simp [S48x128, S48x4096] <;> omega)

/-- Row block `k` of the scales spread over a group's columns. -/
abbrev rXS (k : ℕ) : Rect S32x48x128 :=
  Rect.unit (s := S32x48x128) ![k % 32, 0, 0] S1x48x128.size (by intro a; fin_cases a <;> simp [S1x48x128, S32x48x128]; omega)

/-- Where group `k` goes in the padded left operand: pass `k / 2`, the first or the second half of its columns. -/
abbrev rL (k : ℕ) : Rect S16x96x256 :=
  Rect.unit (s := S16x96x256) ![k / 2 % 16, 0, 128 * (k % 2)] S1x96x128.size
    (by intro a; fin_cases a <;> simp [S1x96x128, S16x96x256] <;> omega)

/-- Pass `p` of the padded left operand. -/
abbrev rP (p : ℕ) : Rect S16x96x256 :=
  Rect.unit (s := S16x96x256) ![p % 16, 0, 0] S1x96x256.size (by intro a; fin_cases a <;> simp [S1x96x256, S16x96x256]; omega)

/-- Rows `256 n …`, columns `256 p …` of the weights' block. -/
abbrev rW (n p : ℕ) : Rect S1024x4096 :=
  Rect.unit (s := S1024x4096) ![256 * (n % 4), 256 * (p % 16)] S256x256.size
    (by intro a; fin_cases a <;> simp [S256x256, S1024x4096] <;> omega)

/-- Row `i`, columns `256 n …` of the weights' scales. -/
abbrev rS (i n : ℕ) : Rect S32x1024 :=
  Rect.unit (s := S32x1024) ![i % 32, 256 * (n % 4)] S1x256.size (by intro a; fin_cases a <;> simp [S1x256, S32x1024] <;> omega)

/-- Columns `256 n …` of the product's block. -/
abbrev rY (n : ℕ) : Rect S48x1024 :=
  Rect.unit (s := S48x1024) ![0, 256 * (n % 4)] S48x256.size (by intro a; fin_cases a <;> simp [S48x256, S48x1024] <;> omega)

/-- The scales, whole. -/
abbrev rG : Rect S48x32 := Rect.unit (s := S48x32) ![0, 0] S48x32.size inb_S48x32_S48x32_0_0

/-! ## The quantiser -/

/-- The zero half of the padded left operand. -/
def zeroHalf : FVec F S48x128 .f32 := broadcast S48x128 (Scalar.ofBits .f32 0x00000000#32)

/-- A group of `x`, widened. -/
def grp (x : Vec F S48x4096 .bf16) (k : ℕ) : FVec F S48x128 .f32 :=
  extf .f32 (shapeCast S48x128 (View.ld x (rC k)) shapeCasts_S48x128_S48x128) bitsLt_bf16_f32

/-- The group's largest magnitude over 448, a column. -/
def mag (v : FVec F S48x128 .f32) : FVec F S48x1 .f32 :=
  absf (mulf (shapeCast S48x1 (multiReduction .maximumf [1] S48 (absf v) 0xFF800000#32 reduces_S48x128_S48 (.inl rfl) rfl)
    shapeCasts_S48_S48x1) (broadcast S48x1 (Scalar.ofBits .f32 0x3B124925#32)))

/-- One step of the search for the exponent's field: the bit `b` kept where the word with it, read as a
    number, is at most `y`. -/
def step (y : FVec F S48x1 .f32) (b : BitVec 32) (z : IVec S48x1 32) : IVec S48x1 32 :=
  select (cmpf .ole (bitcastToFloat .f32 (ori z (broadcast S48x1 b))) y) (ori z (broadcast S48x1 b)) z

/-- The search, from the top bit of the field down. -/
def search (y : FVec F S48x1 .f32) : IVec S48x1 32 :=
  step y 8388608#32 (step y 16777216#32 (step y 33554432#32 (step y 67108864#32 (step y 134217728#32
    (step y 268435456#32 (step y 536870912#32 (step y 1073741824#32 (broadcast S48x1 0#32))))))))

/-- The field as a number. -/
def field (z : IVec S48x1 32) : IVec S48x1 32 := andi (shrsi z (broadcast S48x1 23#32)) (broadcast S48x1 255#32)

/-- The exponent of a field: 0 at the two ends, else the field less 126. -/
def expo (f : IVec S48x1 32) : IVec S48x1 32 :=
  select (ori (cmpi .eq f (broadcast S48x1 0#32)) (cmpi .eq f (broadcast S48x1 255#32))) (broadcast S48x1 0#32)
    (subi f (broadcast S48x1 126#32))

/-- The power of two with a given exponent, by its word. -/
def pow2 (e : IVec S48x1 32) : FVec F S48x1 .f32 :=
  bitcastToFloat .f32 (shli (addi e (broadcast S48x1 127#32)) (broadcast S48x1 23#32))

/-- The exponent of a group. -/
def gexp (v : FVec F S48x128 .f32) : IVec S48x1 32 := expo (field (search (mag v)))

/-- The scale of a group, a column. -/
def gscale (v : FVec F S48x128 .f32) : FVec F S48x1 .f32 := pow2 (gexp v)

/-- A group over its scale, clipped to ±448. -/
def gq (v : FVec F S48x128 .f32) : FVec F S48x128 .f32 :=
  minimumf (broadcast S48x128 (Scalar.ofBits .f32 0x43E00000#32))
    (maximumf (broadcast S48x128 (Scalar.ofBits .f32 0xC3E00000#32))
      (mulf v (broadcastTo S48x128 (pow2 (subi (broadcast S48x1 0#32) (gexp v))) broadcasts_S48x1_S48x128)))

/-- Group `k`'s codes. -/
def codeP (x : Vec F S48x4096 .bf16) (k : ℕ) : FVec F S48x128 .fp8e4m3 :=
  truncf .fp8e4m3 (gq (grp x k)) bitsLt_fp8e4m3_f32

/-- Group `k`'s scale spread over a group's columns. -/
def xsP (x : Vec F S48x4096 .bf16) (k : ℕ) : FVec F S1x48x128 .f32 :=
  shapeCast S1x48x128 (broadcastTo S48x128 (shapeCast S48x1 (gscale (grp x k)) shapeCasts_S48x1_S48x1) broadcasts_S48x1_S48x128)
    shapeCasts_S48x128_S1x48x128

/-- Group `k`'s rows of the padded left operand: an even group above the zeros, an odd one below. -/
def lhsEven (x : Vec F S48x4096 .bf16) (k : ℕ) : FVec F S1x96x128 .fp8e4m3 :=
  shapeCast S1x96x128 (truncf .fp8e4m3 (concatenate S96x128 0 [⟨S48x128, gq (grp x k)⟩, ⟨S48x128, zeroHalf⟩]
    concatenates_S48x128_S48x128_S96x128_d0) bitsLt_fp8e4m3_f32) shapeCasts_S96x128_S1x96x128

@[inherit_doc lhsEven]
def lhsOdd (x : Vec F S48x4096 .bf16) (k : ℕ) : FVec F S1x96x128 .fp8e4m3 :=
  shapeCast S1x96x128 (truncf .fp8e4m3 (concatenate S96x128 0 [⟨S48x128, zeroHalf⟩, ⟨S48x128, gq (grp x k)⟩]
    concatenates_S48x128_S48x128_S96x128_d0) bitsLt_fp8e4m3_f32) shapeCasts_S96x128_S1x96x128

/-- The scales after `k` groups: column `i` set to group `i`'s, the rest zero. -/
def scales (x : Vec F S48x4096 .bf16) : ℕ → FVec F S48x32 .f32
  | 0 => broadcast S48x32 (Scalar.ofBits .f32 0x00000000#32)
  | k + 1 => select (cmpi .eq (iota .tc S48x32 32 [1] iota_S48x32_d1_w32) (broadcast S48x32 (BitVec.ofNat 32 k)))
      (broadcastTo S48x32 (shapeCast S48x1 (gscale (grp x k)) shapeCasts_S48x1_S48x1) broadcasts_S48x1_S48x32) (scales x k)

/-- The writes of the codes, of the spread scales and of the padded left operand, last first. -/
def codeL (x : Vec F S48x4096 .bf16) : ℕ → List (View.Piece (Elt F) S48x4096 .fp8e4m3)
  | 0 => []
  | k + 1 => ⟨rC k, codeP x k⟩ :: codeL x k

@[inherit_doc codeL]
def xsL (x : Vec F S48x4096 .bf16) : ℕ → List (View.Piece (Elt F) S32x48x128 .f32)
  | 0 => []
  | k + 1 => ⟨rXS k, xsP x k⟩ :: xsL x k

@[inherit_doc codeL]
def lhsL (x : Vec F S48x4096 .bf16) : ℕ → List (View.Piece (Elt F) S16x96x256 .fp8e4m3)
  | 0 => []
  | p + 1 => ⟨rL (2 * p + 1), lhsOdd x (2 * p + 1)⟩ :: ⟨rL (2 * p), lhsEven x (2 * p)⟩ :: lhsL x p

/-- What the quantiser leaves: the codes, the scales, the padded left operand, the spread scales. -/
def codesOf (x : Vec F S48x4096 .bf16) : Vec F S48x4096 .fp8e4m3 := View.canon (codeL x 32)

@[inherit_doc codesOf]
def scalesOf (x : Vec F S48x4096 .bf16) : Vec F S48x32 .f32 := View.canon [⟨rG, scales x 32⟩]

@[inherit_doc codesOf]
def lhsOf (x : Vec F S48x4096 .bf16) : Vec F S16x96x256 .fp8e4m3 := View.canon (lhsL x 16)

@[inherit_doc codesOf]
def xsOf (x : Vec F S48x4096 .bf16) : Vec F S32x48x128 .f32 := View.canon (xsL x 32)

/-! ## The product -/

variable (L : Vec F S16x96x256 .fp8e4m3) (XS : Vec F S32x48x128 .f32) (w : Vec F S1024x4096 .fp8e4m3) (ws : Vec F S32x1024 .f32)

/-- Pass `p` of chunk `n`: both of its groups' products, one above the other. -/
def pass (n p : ℕ) : FVec F S96x256 .f32 :=
  matmul dot_S96x256_S256x256_S96x256_1_1_0_0_n_n none (shapeCast S96x256 (View.ld L (rP p)) shapeCasts_S1x96x256_S96x256)
    (View.ld w (rW n p)) (constant S96x256 .f32 0x00000000#32)

/-- Group `i`'s scale spread over a chunk's columns. -/
def xsRow (i : ℕ) : FVec F S48x256 .f32 :=
  concatenate S48x256 1 [⟨S48x128, shapeCast S48x128 (View.ld XS (rXS i)) shapeCasts_S1x48x128_S48x128⟩,
    ⟨S48x128, shapeCast S48x128 (View.ld XS (rXS i)) shapeCasts_S1x48x128_S48x128⟩] concatenates_S48x128_S48x128_S48x256_d1

/-- Group `i`'s weight scales spread over the rows. -/
def wsRow (i n : ℕ) : FVec F S48x256 .f32 :=
  broadcastTo S48x256 (shapeCast S1x256 (View.ld ws (rS i n)) shapeCasts_S1x256_S1x256) broadcasts_S1x256_S48x256

/-- The term of group `2 p` of chunk `n`, and of group `2 p + 1`. -/
def term0 (n p : ℕ) : FVec F S48x256 .f32 :=
  mulf (mulf (extractStridedSlice S48x256 ![0, 0] (pass L w n p) slices_S96x256_o0_0_S48x256) (xsRow XS (2 * p))) (wsRow ws (2 * p) n)

@[inherit_doc term0]
def term1 (n p : ℕ) : FVec F S48x256 .f32 :=
  mulf (mulf (extractStridedSlice S48x256 ![48, 0] (pass L w n p) slices_S96x256_o48_0_S48x256) (xsRow XS (2 * p + 1)))
    (wsRow ws (2 * p + 1) n)

/-- The sum over the groups of passes `0 … p`, in order. -/
def acc (n : ℕ) : ℕ → FVec F S48x256 .f32
  | 0 => addf (term0 L XS w ws n 0) (term1 L XS w ws n 0)
  | p + 1 => addf (addf (acc n p) (term0 L XS w ws n (p + 1))) (term1 L XS w ws n (p + 1))

/-- Chunk `n` of the product. -/
def chunk (n : ℕ) : FVec F S48x256 .bf16 := truncf .bf16 (acc L XS w ws n 15) bitsLt_bf16_f32

/-- The writes of the product's block, last first, and the block. -/
def yL : List (View.Piece (Elt F) S48x1024 .bf16) :=
  [⟨rY 3, chunk L XS w ws 3⟩, ⟨rY 2, chunk L XS w ws 2⟩, ⟨rY 1, chunk L XS w ws 1⟩, ⟨rY 0, chunk L XS w ws 0⟩]

@[inherit_doc yL]
def yOf : Vec F S48x1024 .bf16 := View.canon (yL L XS w ws)

end Cert.KernelIdeal.Hand

end
-- ==== Proof.Split.lean ====
/- The kernel's body, in two: the quantiser (the first point's `pl.when`), and the product. Each is run once,
   at any contents of the buffers it reads; the quantiser's four results and the product's block are those of
   Proof/Blocks.lean. -/
module

public import proofs.«01_k».proof.Proof.Blocks

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (arg1 : Memref sig .tc .vmem S48x4096 .bf16) (harg1 : arg1.IsWhole)
  (arg2 : Memref sig .tc .vmem S1024x4096 .fp8e4m3) (harg2 : arg2.IsWhole)
  (arg3 : Memref sig .tc .vmem S32x1024 .f32) (harg3 : arg3.IsWhole)
  (arg4 : Memref sig .tc .vmem S48x1024 .bf16) (harg4 : arg4.IsWhole)
  (arg5 : Memref sig .tc .vmem S48x4096 .fp8e4m3) (harg5 : arg5.IsWhole)
  (arg6 : Memref sig .tc .vmem S48x32 .f32) (harg6 : arg6.IsWhole)
  (arg7 : Memref sig .tc .vmem S16x96x256 .fp8e4m3) (harg7 : arg7.IsWhole)
  (arg8 : Memref sig .tc .vmem S32x48x128 .f32) (harg8 : arg8.IsWhole)

/-- The region of the body's `pl.when`: the quantiser. -/
def quantP (i : grid0.Coords) : Prog (TpuEff nD τ sig (Elt F) Λ₀ .tc) PUnit := do
  let ⟨v1543, v1545, v4083, v4096, v4102, v4138, v4139⟩ ← k0_part73 i
      arg1 harg1 arg2 harg2 arg3 harg3 arg4 harg4 arg5 harg5 arg6 harg6 arg7 harg7 arg8 harg8
  let ⟨v4174, v4181, v4182⟩ ← k0_part61 i
      arg1 harg1 arg2 harg2 arg3 harg3 arg4 harg4 arg5 harg5 arg6 harg6 arg7 harg7 arg8 harg8 v1543 v4083 v4096 v4102 v4138 v4139
  let ⟨v4194, v4200, v4221, v4223, v4224⟩ ← k0_part62 i
      arg1 harg1 arg2 harg2 arg3 harg3 arg4 harg4 arg5 harg5 arg6 harg6 arg7 harg7 arg8 harg8 v1545 v4174 v4182
  let ⟨v4259, v4268, cst_1905, cst_1906⟩ ← k0_part63 i
      arg1 harg1 arg2 harg2 arg3 harg3 arg4 harg4 arg5 harg5 arg6 harg6 arg7 harg7 arg8 harg8 v4194 v4200 v4221 v4223 v4224
  let ⟨v4279, v4292, v4298, v4309⟩ ← k0_part64 i
      arg1 harg1 arg2 harg2 arg3 harg3 arg4 harg4 arg5 harg5 arg6 harg6 arg7 harg7 arg8 harg8 v1543 v1545 v4181 v4259 v4268 cst_1905 cst_1906
  let ⟨v4352, v4354, v4355⟩ ← k0_part65 i
      arg1 harg1 arg2 harg2 arg3 harg3 arg4 harg4 arg5 harg5 arg6 harg6 arg7 harg7 arg8 harg8 v4298 v4309
  let ⟨v4377, v4390, v4393, v4394⟩ ← k0_part66 i
      arg1 harg1 arg2 harg2 arg3 harg3 arg4 harg4 arg5 harg5 arg6 harg6 arg7 harg7 arg8 harg8 v1543 v1545 v4279 v4292 v4352 v4354 v4355
  let ⟨v4441, v4442⟩ ← k0_part67 i
      arg1 harg1 arg2 harg2 arg3 harg3 arg4 harg4 arg5 harg5 arg6 harg6 arg7 harg7 arg8 harg8 v4393 v4394
  let ⟨v4475, v4482⟩ ← k0_part68 i
      arg1 harg1 arg2 harg2 arg3 harg3 arg4 harg4 arg5 harg5 arg6 harg6 arg7 harg7 arg8 harg8 v1543 v1545 v4377 v4390 v4441 v4442
  let ⟨v4488, v4494, v4525, v4527, v4528⟩ ← k0_part69 i
      arg1 harg1 arg2 harg2 arg3 harg3 arg4 harg4 arg5 harg5 arg6 harg6 arg7 harg7 arg8 harg8 v4482
  let ⟨v4553, v4566, v4570⟩ ← k0_part70 i
      arg1 harg1 arg2 harg2 arg3 harg3 arg4 harg4 arg5 harg5 arg6 harg6 arg7 harg7 arg8 harg8 v1543 v4488 v4494 v4525 v4527 v4528
  let ⟨v4573, v4586, v4592, v4613⟩ ← k0_part71 i
      arg1 harg1 arg2 harg2 arg3 harg3 arg4 harg4 arg5 harg5 arg6 harg6 arg7 harg7 arg8 harg8 v1545 v4475 v4553 v4566 v4570
  let ⟨v4651, v4658⟩ ← k0_part72 i
      arg1 harg1 arg2 harg2 arg3 harg3 arg4 harg4 arg5 harg5 arg6 harg6 arg7 harg7 arg8 harg8 v4592 v4613
  let v4666 : Vec F S48x128 .fp8e4m3 ← Prog.lift (.load arg5 (Rect.unit (s := S48x4096) ![0, 3968] S48x128.size inb_S48x4096_S48x128_0_3968).toLoadRect (View.loadsAt_vmem h_S48x128))
  Prog.lift (.store arg5 (Rect.unit (s := S48x4096) ![0, 3968] S48x128.size inb_S48x4096_S48x128_0_3968) (k0_pay381 v4586 v4658) Finset.univ (View.stores_vmem h_S48x128 (harg5.storeExact_slice rfl _ packedfp8e4m3_S48x4096_S48x128_0_3968) (fun _ => rfl)) (.inl rfl))
  let v4674 : Vec F S1x48x128 .f32 ← Prog.lift (.load arg8 (Rect.unit (s := S32x48x128) ![31, 0, 0] S1x48x128.size inb_S32x48x128_S1x48x128_31_0_0).toLoadRect (View.loadsAt_vmem h_S1x48x128))
  Prog.lift (.store arg8 (Rect.unit (s := S32x48x128) ![31, 0, 0] S1x48x128.size inb_S32x48x128_S1x48x128_31_0_0) (k0_pay383 v4651) Finset.univ (View.stores_vmem_bits_univ h_S1x48x128 rfl) (.inl rfl))
  let v4679 : Vec F S1x96x128 .fp8e4m3 ← Prog.lift (.load arg7 (Rect.unit (s := S16x96x256) ![15, 0, 128] S1x96x128.size inb_S16x96x256_S1x96x128_15_0_128).toLoadRect (View.loadsAt_vmem h_S1x96x128))
  Prog.lift (.store arg7 (Rect.unit (s := S16x96x256) ![15, 0, 128] S1x96x128.size inb_S16x96x256_S1x96x128_15_0_128) (k0_pay384 v1545 v4586 v4658) Finset.univ (View.stores_vmem h_S1x96x128 (harg7.storeExact_slice rfl _ packedfp8e4m3_S16x96x256_S1x96x128_15_0_128) (fun _ => rfl)) (.inl rfl))
  let v4682 : Vec F S48x32 .f32 ← Prog.lift (.load arg6 (Rect.unit (s := S48x32) ![0, 0] S48x32.size inb_S48x32_S48x32_0_0).toLoadRect (View.loadsAt_vmem h_S48x32))
  Prog.lift (.store arg6 (Rect.unit (s := S48x32) ![0, 0] S48x32.size inb_S48x32_S48x32_0_0) (k0_pay382 v1543 v4573 v4651) Finset.univ (View.stores_vmem_bits_univ h_S48x32 rfl) (.inl rfl))
  pure ⟨⟩

/-- At the first point the body is the quantiser and then what it is at any other point. -/
theorem part_first {i i' : grid0.Coords} (hc : cond0_0 i) (hc' : ¬cond0_0 i') :
    k0_part74 (F := F) i arg1 harg1 arg2 harg2 arg3 harg3 arg4 harg4 arg5 harg5 arg6 harg6 arg7 harg7 arg8 harg8
      = quantP arg1 harg1 arg2 harg2 arg3 harg3 arg4 harg4 arg5 harg5 arg6 harg6 arg7 harg7 arg8 harg8 i >>= fun _ =>
        k0_part74 (F := F) i' arg1 harg1 arg2 harg2 arg3 harg3 arg4 harg4 arg5 harg5 arg6 harg6 arg7 harg7 arg8 harg8 := by
  simp only [k0_part74_eq_skeleton]
  unfold k0_part74_skel quantP
  simp only [dif_pos hc, dif_neg hc', bind_assoc, pure_bind]

theorem body_first {i i' : grid0.Coords} (hc : cond0_0 i) (hc' : ¬cond0_0 i') :
    cc0_fp8_group_linear (F := F) i arg1 harg1 arg2 harg2 arg3 harg3 arg4 harg4 arg5 harg5 arg6 harg6 arg7 harg7 arg8 harg8
      = quantP arg1 harg1 arg2 harg2 arg3 harg3 arg4 harg4 arg5 harg5 arg6 harg6 arg7 harg7 arg8 harg8 i >>= fun _ =>
        cc0_fp8_group_linear (F := F) i' arg1 harg1 arg2 harg2 arg3 harg3 arg4 harg4 arg5 harg5 arg6 harg6 arg7 harg7 arg8 harg8 := by
  simp only [cc0_fp8_group_linear_eq_skeleton]
  unfold cc0_fp8_group_linear_skel
  rw [part_first arg1 harg1 arg2 harg2 arg3 harg3 arg4 harg4 arg5 harg5 arg6 harg6 arg7 harg7 arg8 harg8 hc hc', bind_assoc]
  rfl

end Cert.KernelIdeal.Hand

end
-- ==== Proof.Product.lean ====
/- The kernel's body, in two: the quantiser (the first point's `pl.when`), and the product. Each is run once,
   at any contents of the buffers it reads; the quantiser's four results and the product's block are those of
   Proof/Blocks.lean. -/
module

public import proofs.«01_k».proof.Proof.Split

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (arg1 : Memref sig .tc .vmem S48x4096 .bf16) (harg1 : arg1.IsWhole)
  (arg2 : Memref sig .tc .vmem S1024x4096 .fp8e4m3) (harg2 : arg2.IsWhole)
  (arg3 : Memref sig .tc .vmem S32x1024 .f32) (harg3 : arg3.IsWhole)
  (arg4 : Memref sig .tc .vmem S48x1024 .bf16) (harg4 : arg4.IsWhole)
  (arg5 : Memref sig .tc .vmem S48x4096 .fp8e4m3) (harg5 : arg5.IsWhole)
  (arg6 : Memref sig .tc .vmem S48x32 .f32) (harg6 : arg6.IsWhole)
  (arg7 : Memref sig .tc .vmem S16x96x256 .fp8e4m3) (harg7 : arg7.IsWhole)
  (arg8 : Memref sig .tc .vmem S32x48x128 .f32) (harg8 : arg8.IsWhole)

theorem coverY (L : Vec F S16x96x256 .fp8e4m3) (XS : Vec F S32x48x128 .f32) (w : Vec F S1024x4096 .fp8e4m3) (ws : Vec F S32x1024 .f32)
    (y : S48x1024.Idx) : ∃ pc ∈ yL L XS w ws, y ∈ pc.1.set :=
  View.cover_of_tiled (yL L XS w ws) S48x256.size (by rfl) y

set_option maxHeartbeats 4000000 in
/-- The product: from any contents of the scratch buffers, the product's block. -/
theorem prodRun (c : Dev nD) (i : grid0.Coords) (hc0 : ¬cond0_0 i)
    (x1 : Vec F S1024x4096 .fp8e4m3) (x2 : Vec F S32x1024 .f32) (L : Vec F S16x96x256 .fp8e4m3) (XS : Vec F S32x48x128 .f32)
    (E : Set ℕ) (K : PUnit → sProp 𝕄) :
    iprop(owns (c : Thread nD τ) arg2 fullShare x1 ∗ owns (c : Thread nD τ) arg3 fullShare x2
        ∗ (∃ d, owns (c : Thread nD τ) arg4 fullShare d)
        ∗ owns (c : Thread nD τ) arg7 fullShare L ∗ owns (c : Thread nD τ) arg8 fullShare XS
        ∗ (iprop(owns (c : Thread nD τ) arg2 fullShare x1 ∗ owns (c : Thread nD τ) arg3 fullShare x2
            ∗ owns (c : Thread nD τ) arg4 fullShare (yOf L XS x1 x2)
            ∗ owns (c : Thread nD τ) arg7 fullShare L ∗ owns (c : Thread nD τ) arg8 fullShare XS) -∗ K ⟨⟩))
      ⊢ wp frame (wpE (defs₀ (F := F)) Variants.none c none) E
          (cc0_fp8_group_linear i arg1 harg1 arg2 harg2 arg3 harg3 arg4 harg4 arg5 harg5 arg6 harg6 arg7 harg7 arg8 harg8) K := by
  simp only [cc0_fp8_group_linear_eq_skeleton]; unfold cc0_fp8_group_linear_skel
  simp only [k0_part74_eq_skeleton, k0_part75_eq_skeleton, k0_part76_eq_skeleton, k0_part77_eq_skeleton, k0_part78_eq_skeleton,
      k0_part79_eq_skeleton, k0_part80_eq_skeleton, k0_part81_eq_skeleton, k0_part82_eq_skeleton, k0_part83_eq_skeleton,
      k0_part84_eq_skeleton, k0_part85_eq_skeleton, k0_part86_eq_skeleton, k0_part87_eq_skeleton, k0_part88_eq_skeleton,
      k0_part89_eq_skeleton, k0_part90_eq_skeleton, k0_part91_eq_skeleton, k0_part92_eq_skeleton, k0_part93_eq_skeleton,
      k0_part94_eq_skeleton, k0_part95_eq_skeleton, k0_part96_eq_skeleton, k0_part97_eq_skeleton, k0_part98_eq_skeleton,
      k0_part99_eq_skeleton, k0_part100_eq_skeleton, k0_part101_eq_skeleton, k0_part102_eq_skeleton, k0_part103_eq_skeleton,
      k0_part104_eq_skeleton, k0_part105_eq_skeleton, k0_part106_eq_skeleton, k0_part107_eq_skeleton, k0_part108_eq_skeleton,
      k0_part109_eq_skeleton, k0_part110_eq_skeleton, k0_part111_eq_skeleton, k0_part112_eq_skeleton, k0_part113_eq_skeleton,
      k0_part114_eq_skeleton, k0_part115_eq_skeleton, k0_part116_eq_skeleton]
  unfold owns
  iintro ⟨⟨%f1, %hf1, H1⟩, ⟨%f2, %hf2, H2⟩, ⟨%d3, %f3, -, H3⟩, ⟨%fs0, %hs0, HS0⟩, ⟨%fs1, %hs1, HS1⟩, Hk⟩
  subst hf1 hf2 hs0 hs1
  sl_exec (disch := first | sl_exact hc0)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (coverY _ _ _ _)).trans rfl
  isplitl [HS0]
  · iexists fs0; isplitr; · ipureintro; rfl
    iexact HS0
  iexists fs1; isplitr; · ipureintro; rfl
  iexact HS1

end Cert.KernelIdeal.Hand

end
-- ==== Proof.Quant.lean ====
/- The kernel's body, in two: the quantiser (the first point's `pl.when`), and the product. Each is run once,
   at any contents of the buffers it reads; the quantiser's four results and the product's block are those of
   Proof/Blocks.lean. -/
module

public import proofs.«01_k».proof.Proof.Split

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (arg1 : Memref sig .tc .vmem S48x4096 .bf16) (harg1 : arg1.IsWhole)
  (arg2 : Memref sig .tc .vmem S1024x4096 .fp8e4m3) (harg2 : arg2.IsWhole)
  (arg3 : Memref sig .tc .vmem S32x1024 .f32) (harg3 : arg3.IsWhole)
  (arg4 : Memref sig .tc .vmem S48x1024 .bf16) (harg4 : arg4.IsWhole)
  (arg5 : Memref sig .tc .vmem S48x4096 .fp8e4m3) (harg5 : arg5.IsWhole)
  (arg6 : Memref sig .tc .vmem S48x32 .f32) (harg6 : arg6.IsWhole)
  (arg7 : Memref sig .tc .vmem S16x96x256 .fp8e4m3) (harg7 : arg7.IsWhole)
  (arg8 : Memref sig .tc .vmem S32x48x128 .f32) (harg8 : arg8.IsWhole)

theorem coverC (x : Vec F S48x4096 .bf16) (y : S48x4096.Idx) : ∃ pc ∈ codeL x 32, y ∈ pc.1.set :=
  View.cover_of_tiled (codeL x 32) S48x128.size (by rfl) y

theorem coverG (x : Vec F S48x4096 .bf16) (y : S48x32.Idx) :
    ∃ pc ∈ ([⟨rG, scales x 32⟩] : List (View.Piece (Elt F) S48x32 .f32)), y ∈ pc.1.set :=
  View.cover_of_tiled ([⟨rG, scales x 32⟩] : List (View.Piece (Elt F) S48x32 .f32)) S48x32.size (by rfl) y

theorem coverL (x : Vec F S48x4096 .bf16) (y : S16x96x256.Idx) : ∃ pc ∈ lhsL x 16, y ∈ pc.1.set :=
  View.cover_of_tiled (lhsL x 16) S1x96x128.size (by rfl) y

theorem coverXS (x : Vec F S48x4096 .bf16) (y : S32x48x128.Idx) : ∃ pc ∈ xsL x 32, y ∈ pc.1.set :=
  View.cover_of_tiled (xsL x 32) S1x48x128.size (by rfl) y

set_option maxHeartbeats 8000000 in
/-- The quantiser: from any contents of the buffers it fills, the codes, the scales and the two scratch buffers. -/
theorem quantRun (c : Dev nD) (i : grid0.Coords) (x : Vec F S48x4096 .bf16) (E : Set ℕ) (K : PUnit → sProp 𝕄) :
    iprop(owns (c : Thread nD τ) arg1 fullShare x
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x
            ∗ owns (c : Thread nD τ) arg5 fullShare (codesOf x) ∗ owns (c : Thread nD τ) arg6 fullShare (scalesOf x)
            ∗ owns (c : Thread nD τ) arg7 fullShare (lhsOf x) ∗ owns (c : Thread nD τ) arg8 fullShare (xsOf x)) -∗ K ⟨⟩))
      ⊢ wp frame (wpE (defs₀ (F := F)) Variants.none c none) E
          (quantP arg1 harg1 arg2 harg2 arg3 harg3 arg4 harg4 arg5 harg5 arg6 harg6 arg7 harg7 arg8 harg8 i) K := by
  unfold quantP
  simp only [k0_part73_eq_skeleton]; unfold k0_part73_skel
  simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton,
      k0_part41_eq_skeleton, k0_part42_eq_skeleton, k0_part43_eq_skeleton, k0_part44_eq_skeleton, k0_part45_eq_skeleton,
      k0_part46_eq_skeleton, k0_part47_eq_skeleton, k0_part48_eq_skeleton, k0_part49_eq_skeleton, k0_part50_eq_skeleton,
      k0_part51_eq_skeleton, k0_part52_eq_skeleton, k0_part53_eq_skeleton, k0_part54_eq_skeleton, k0_part55_eq_skeleton,
      k0_part56_eq_skeleton, k0_part57_eq_skeleton, k0_part58_eq_skeleton, k0_part59_eq_skeleton, k0_part60_eq_skeleton,
      k0_part61_eq_skeleton, k0_part62_eq_skeleton, k0_part63_eq_skeleton, k0_part64_eq_skeleton, k0_part65_eq_skeleton,
      k0_part66_eq_skeleton, k0_part67_eq_skeleton, k0_part68_eq_skeleton, k0_part69_eq_skeleton, k0_part70_eq_skeleton,
      k0_part71_eq_skeleton, k0_part72_eq_skeleton]
  unfold owns
  iintro ⟨⟨%f0, %hf0, H0⟩, ⟨%d4, %f4, -, H4⟩, ⟨%d5, %f5, -, H5⟩, ⟨%ds0, %fs0, -, HS0⟩, ⟨%ds1, %fs1, -, HS1⟩, Hk⟩
  subst hf0
  sl_exec
  sl_step
  iapply Hk
  isplitl [H0]
  · iexists f0; isplitr; · ipureintro; rfl
    iexact H0
  isplitl [H4]
  · iexists _; isplitr
    swap; · iexact H4
    ipureintro
    exact (View.read_writes_eq_canon _ _ _ (coverC _)).trans rfl
  isplitl [H5]
  · iexists _; isplitr
    swap; · iexact H5
    ipureintro
    exact (View.read_writes_eq_canon _ _ _ (coverG _)).trans rfl
  isplitl [HS0]
  · iexists _; isplitr
    swap; · iexact HS0
    ipureintro
    exact (View.read_writes_eq_canon _ _ _ (coverL _)).trans rfl
  iexists _; isplitr
  swap; · iexact HS1
  ipureintro
  exact (View.read_writes_eq_canon _ _ _ (coverXS _)).trans rfl

end Cert.KernelIdeal.Hand

end
-- ==== Proof.Track.lean ====
/- The kernel's run, with what every result holds. The first point quantises and every point computes one
   block of the product; the codes, the scales and the two scratch buffers stay as the first point left them. -/
module

public import proofs.«01_k».proof.Proof.Product
public import proofs.«01_k».proof.Proof.Quant
public import Idealize.ShloMosaic.Lib.Claim
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tokens as the kernel sees them: the one block of window 0. -/
def xin (c : Dev nD) : Vec F S48x4096 .bf16 := iblk m c 0 t0_0

theorem iblk0 (c : Dev nD) (t : Fin cfg0.N) : iblk m c 0 t = xin m c := rfl

/-- What the body leaves in the product's buffer at point `t`. -/
def yblk (c : Dev nD) (t : Fin cfg0.N) : Vec F S48x1024 .bf16 :=
  yOf (lhsOf (xin m c)) (xsOf (xin m c)) (iblk m c 1 t) (iblk m c 2 t)

/-- What is carried from point to point: at first nothing is known of the scratch buffers; afterwards they hold
    the padded left operand and the spread scales. -/
def Phi (c : Dev nD) (n : ℕ) : sProp 𝕄 :=
  if n = 0 then Pipeline.ΦA spec0 c
  else iprop(iprop(owns (c : Thread nD τ) scM0_0 fullShare (lhsOf (xin m c)) ∗ owns (c : Thread nD τ) scM0_1 fullShare (xsOf (xin m c)))
    ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yblk m c t
    | ⟨4, _⟩ => codesOf (xin m c)
    | ⟨5, _⟩ => scalesOf (xin m c)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yblk m c t := by dsimp only [dats]
theorem after0_4 (c : Dev nD) (t : Fin cfg0.N) : (dats m 0 c).after 4 t = codesOf (xin m c) := by dsimp only [dats]
theorem after0_5 (c : Dev nD) (t : Fin cfg0.N) : (dats m 0 c).after 5 t = scalesOf (xin m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The codes and the scales after the first point -/

/-- Where windows 4 and 5 are idle: at every point but the first. -/
theorem idle0_4 (t : Fin cfg0.N) : cfg0.idle 4 (grid0.coords t) = !decide (t.val = 0) := by
  have hN : t.val < 14 := lt_of_lt_of_eq t.isLt (show cfg0.N = 14 from N_0)
  have h := hcond0_0 t
  have e : cfg0.idle 4 (grid0.coords t) = !(k0_cond1 (grid0.coords t) == 1#1) := rfl
  rw [e]
  by_cases h0 : t.val = 0
  · have : k0_cond1 (grid0.coords t) = 1#1 := h.mpr (by omega)
    simp [this, h0]
  · have : ¬k0_cond1 (grid0.coords t) = 1#1 := fun h' => h0 (by have := h.mp h'; omega)
    simp [this, h0]
theorem idle0_5 (t : Fin cfg0.N) : cfg0.idle 5 (grid0.coords t) = !decide (t.val = 0) := idle0_4 t

/-- A window whose contents are the same after every point, idle after the first one and written back at the last
    only, holds them at every later point. -/
theorem before_stays (c : Dev nD) (w : Fin cfg0.W) (C : (cfg0.win w).block.Idx → Elt F (cfg0.win w).elt)
    (ho : (cfg0.win w).isOut = true) (hidle : ∀ t : Fin cfg0.N, cfg0.idle w (grid0.coords t) = !decide (t.val = 0))
    (hflush : ∀ t : Fin cfg0.N, (cfg0.win w).flush t = true ↔ t.val % 14 = 13)
    (hkept : ∀ t d, (dats m 0 c).kept w t d = C) :
    ∀ (n : ℕ) (hn : n < cfg0.N), n ≠ 0 → ∀ d, (dats m 0 c).before w ⟨n, hn⟩ d = C := by
  intro n
  induction n with
  | zero => intro _ h; exact absurd rfl h
  | succ n ih =>
    intro hn _ d
    have hN : n + 1 < 14 := lt_of_lt_of_eq hn (show cfg0.N = 14 from N_0)
    rw [(dats m 0 c).before_of_pos w ⟨n + 1, hn⟩ (Nat.succ_ne_zero n) ((cfg0.win w).fetch_out ho _) d]
    have hf : ¬(cfg0.win w).flush ⟨n, Nat.lt_of_succ_lt hn⟩ = true := fun h => by
      have := (hflush _).mp h; simp only at this; omega
    show (if (cfg0.win w).flush ⟨n, Nat.lt_of_succ_lt hn⟩ = true then d else (dats m 0 c).left w ⟨n, Nat.lt_of_succ_lt hn⟩ d) = C
    rw [if_neg hf]
    unfold Dat.left
    have hi := hidle ⟨n, Nat.lt_of_succ_lt hn⟩
    by_cases h0 : n = 0
    · rw [show cfg0.grid.coords ⟨n, Nat.lt_of_succ_lt hn⟩ = grid0.coords ⟨n, Nat.lt_of_succ_lt hn⟩ from rfl, hi]
      simp only [h0, decide_true, Bool.not_true]
      exact hkept _ _
    · rw [show cfg0.grid.coords ⟨n, Nat.lt_of_succ_lt hn⟩ = grid0.coords ⟨n, Nat.lt_of_succ_lt hn⟩ from rfl, hi]
      simp only [h0, decide_false, Bool.not_false]
      exact ih _ h0 d

theorem before0_4 (c : Dev nD) (t : Fin cfg0.N) (h0 : t.val ≠ 0) (d) : (dats m 0 c).before 4 t d = codesOf (xin m c) :=
  before_stays m c 4 (codesOf (xin m c)) rfl idle0_4 flush0_4 (fun _ _ => by unfold Dat.kept; rw [after0_4]; rfl) t.val t.isLt h0 d
theorem before0_5 (c : Dev nD) (t : Fin cfg0.N) (h0 : t.val ≠ 0) (d) : (dats m 0 c).before 5 t d = scalesOf (xin m c) :=
  before_stays m c 5 (scalesOf (xin m c)) rfl idle0_5 flush0_5 (fun _ _ => by unfold Dat.kept; rw [after0_5]; rfl) t.val t.isLt h0 d

/-- So handing them back is what the obligation asks of them. -/
theorem leaves0_4 (c : Dev nD) (t : Fin cfg0.N) :
    owns (c : Thread nD τ) (ms0_4 t) fullShare (codesOf (xin m c)) ⊢ (dats m 0 c).leavesExact 4 t := by
  unfold Dat.leavesExact
  rw [show cfg0.idle 4 (cfg0.grid.coords t) = _ from idle0_4 t]
  by_cases h0 : t.val = 0
  · simp only [h0, decide_true, Bool.not_true]; rw [after0_4]
  · simp only [h0, decide_false, Bool.not_false]
    cases (cfg0.win 4).flush t
    · iintro H; iexists (codesOf (xin m c)); rw [before0_4 m c t h0]; iexact H
    · simp only; rw [after0_4]
theorem leaves0_5 (c : Dev nD) (t : Fin cfg0.N) :
    owns (c : Thread nD τ) (ms0_5 t) fullShare (scalesOf (xin m c)) ⊢ (dats m 0 c).leavesExact 5 t := by
  unfold Dat.leavesExact
  rw [show cfg0.idle 5 (cfg0.grid.coords t) = _ from idle0_5 t]
  by_cases h0 : t.val = 0
  · simp only [h0, decide_true, Bool.not_true]; rw [after0_5]
  · simp only [h0, decide_false, Bool.not_false]
    cases (cfg0.win 5).flush t
    · iintro H; iexists (scalesOf (xin m c)); rw [before0_5 m c t h0]; iexact H
    · simp only; rw [after0_5]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (yblk m c t) := by
  unfold Dat.leavesExact; rw [show cfg0.idle 3 (cfg0.grid.coords t) = false from rfl, after0_3]

theorem Phi_pos (c : Dev nD) (n : ℕ) (h : n ≠ 0) : Phi m c n =
    iprop(iprop(owns (c : Thread nD τ) scM0_0 fullShare (lhsOf (xin m c)) ∗ owns (c : Thread nD τ) scM0_1 fullShare (xsOf (xin m c)))
    ∗ (∃ r, prngReg c r)) := by unfold Phi; rw [if_neg h]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Phi m c (t.val + 1) from rfl, Phi_pos m c _ (Nat.succ_ne_zero _),
    show (dats m 0 c).owesAt () t.succ = (dats m 0 c).owesAt () t.castSucc from rfl,
    show (dats m 0 c).Φ t.castSucc = Phi m c t.val from rfl]
  rw [leaves0_0, leaves0_1, leaves0_2, leaves0_3, iblk0]
  have hN : t.val < 14 := lt_of_lt_of_eq t.isLt (show cfg0.N = 14 from N_0)
  by_cases h0 : t.val = 0
  · have hc : cond0_0 (grid0.coords t) := (hcond0_0 t).mpr (by omega)
    have hc' : ¬cond0_0 (grid0.coords t0_1) := fun h => absurd ((hcond0_0 t0_1).mp h) (by decide)
    rw [body_first _ _ _ _ _ _ _ _ _ _ _ _ _ _ _ _ hc hc', wp_bind, show Phi m c t.val = Pipeline.ΦA spec0 c from by unfold Phi; rw [if_pos h0], PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (quantRun _ _ _ _ _ _ _ _ _ _ _ _ _ _ _ _ c (grid0.coords t) (xin m c) Set.univ _)
    isplitl [H0]; · iexact H0
    isplitl [H4]; · iexists _; iexact H4
    isplitl [H5]; · iexists _; iexact H5
    isplitl [HS0]; · iexact HS0
    isplitl [HS1]; · iexact HS1
    iintro ⟨H0, H4, H5, HS0, HS1⟩
    iapply (prodRun _ _ _ _ _ _ _ _ _ _ _ _ _ _ _ _ c (grid0.coords t0_1) hc' (iblk m c 1 t) (iblk m c 2 t) (lhsOf (xin m c)) (xsOf (xin m c)) Set.univ _)
    isplitl [H1]; · iexact H1
    isplitl [H2]; · iexact H2
    isplitl [H3]; · iexists _; iexact H3
    isplitl [HS0]; · iexact HS0
    isplitl [HS1]; · iexact HS1
    iintro ⟨H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves0_4 m c t); iexact H4
    iapply (leaves0_5 m c t); iexact H5
  · have hc' : ¬cond0_0 (grid0.coords t) := fun h => h0 (by have := (hcond0_0 t).mp h; omega)
    rw [Phi_pos m c _ h0]
    simp only [before0_4 m c t h0, before0_5 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (prodRun _ _ _ _ _ _ _ _ _ _ _ _ _ _ _ _ c (grid0.coords t) hc' (iblk m c 1 t) (iblk m c 2 t) (lhsOf (xin m c)) (xsOf (xin m c)) Set.univ _)
    isplitl [H1]; · iexact H1
    isplitl [H2]; · iexact H2
    isplitl [H3]; · iexists _; iexact H3
    isplitl [HS0]; · iexact HS0
    isplitl [HS1]; · iexact HS1
    iintro ⟨H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves0_4 m c t); iexact H4
    iapply (leaves0_5 m c t); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem Phi_in (c : Dev nD) : (Pipeline.ΦA spec0 c : sProp 𝕄) ⊢ (dats m 0 c).Φ 0 := by
  show _ ⊢ Phi m c 0
  unfold Phi; rw [if_pos rfl]

theorem Phi_out (c : Dev nD) : (dats m 0 c).Φ (Fin.last cfg0.N) ⊢ (Pipeline.ΦA spec0 c : sProp 𝕄) := by
  show Phi m c cfg0.N ⊢ _
  rw [Phi_pos m c _ (by rw [show cfg0.N = 14 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every array the pipeline writes holds what the proof data says, and every counter ends at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Scale.lean ====
/- The scale of a group, as a number: the kernel finds the exponent's field bit by bit and builds the power of two
   from it, the reference takes the floor of a logarithm and raises two to it. For a largest magnitude within
   the narrow format's range the two agree. -/
module

public import Idealize.ShloMosaic.PureOps.Ideal
public import Idealize.ShloMosaic.PureOps.Ideal.Laws
public import Idealize.ShloMosaic.Lib.IdealHost

@[expose] public section

noncomputable section

namespace Cert.Hand

open Idealize.ShloMosaic

/-- The word whose exponent field is `n` and whose other fields are zero. -/
def word (n : ℕ) : BitVec 32 := BitVec.ofNat 32 (n * 2 ^ 23)

/-- A word read as a number. -/
abbrev num (b : BitVec 32) : EReal := Ideal.ofBits .f32 b

/-! ## The kernel's spelling -/

/-- One step of the search for the field. -/
def stepS (y : EReal) (b z : BitVec 32) : BitVec 32 :=
  Scalar.select (Ideal.cmp .ole (num (IntOp.ori z b)) y) (IntOp.ori z b) z

/-- The search. -/
def searchS (y : EReal) : BitVec 32 :=
  stepS y 8388608#32 (stepS y 16777216#32 (stepS y 33554432#32 (stepS y 67108864#32 (stepS y 134217728#32
    (stepS y 268435456#32 (stepS y 536870912#32 (stepS y 1073741824#32 0#32)))))))

/-- The field of a word. -/
def fieldS (z : BitVec 32) : BitVec 32 := IntOp.andi (IntOp.shrsi .vector z 23#32) 255#32

/-- The exponent of a field. -/
def expoS (f : BitVec 32) : BitVec 32 :=
  Scalar.select (IntOp.ori (IntOp.cmpi .eq f 0#32) (IntOp.cmpi .eq f 255#32)) 0#32 (IntOp.subi f 126#32)

/-- The power of two with a given exponent. -/
def pow2S (e : BitVec 32) : EReal := num (IntOp.shli .vector (IntOp.addi e 127#32) 23#32)

/-- The magnitude over 448. -/
def magS (a : EReal) : EReal := max (a * num 0x3B124925#32) (-(a * num 0x3B124925#32))

/-- The exponent the kernel finds. -/
def kExp (a : EReal) : BitVec 32 := expoS (fieldS (searchS (magS a)))

/-- The kernel's scale and its inverse. -/
def kScale (a : EReal) : EReal := pow2S (kExp a)

@[inherit_doc kScale]
def kInv (a : EReal) : EReal := pow2S (IntOp.subi 0#32 (kExp a))

/-! ## The reference's spelling -/

/-- The quotient, with what is below the normal numbers taken as zero. -/
def flush (r : EReal) : EReal := Scalar.select (Ideal.cmp .olt r (num 0x00800000#32)) (num 0x00000000#32) r

/-- The reference's exponent. -/
def rExp (a : EReal) : EReal :=
  Scalar.select (Ideal.cmp .oeq a (num 0x00000000#32)) (num 0x00000000#32)
    (Scalar.select (IntOp.ori (Ideal.cmp .oeq (flush (a * num 0x3B124925#32)) (num 0x00000000#32))
        (Ideal.cmp .oeq (flush (a * num 0x3B124925#32)) (num 0x7F800000#32))) (num 0x00000000#32)
      (Ideal.liftRound Int.floor (Ideal.div (Ideal.log (flush (a * num 0x3B124925#32))) (Ideal.log (num 0x40000000#32)))
        + num 0x3F800000#32))

/-! ## The numbers of the words -/

theorem word_fields : ∀ n < 256, (word n).extractLsb' (8 + 23) 1 = 0#1 ∧ ((word n).extractLsb' 23 8).toNat = n
    ∧ ((word n).extractLsb' 0 23).toNat = 0 := by
  decide +kernel

theorem num_zero : num (word 0) = 0 := by simp [num, word, Ideal.ofBits, Ideal.ieee]

theorem num_top : num (word 255) = ⊤ := by
  simp [num, word, Ideal.ofBits, Ideal.ieee]

theorem num_pow (n : ℕ) (h1 : 1 ≤ n) (h2 : n ≤ 254) : num (word n) = (((2 : ℝ) ^ ((n : ℤ) - 127) : ℝ) : EReal) := by
  obtain ⟨ha, hb, hc⟩ := word_fields n (by omega)
  have e : num (word n) = Ideal.ieee 8 23 (word n) := rfl
  rw [e]
  unfold Ideal.ieee
  simp only [ha, hb, hc]
  rw [if_neg (by omega), if_neg (by omega)]
  congr 1
  have hs : (2 : ℝ) ^ ((n : ℤ) - 127) = (2 : ℝ) ^ (23 : ℤ) * (2 : ℝ) ^ ((n : ℤ) - 127 - 23) := by
    rw [← zpow_add₀ (by norm_num)]; congr 1; ring
  rw [hs]
  norm_num

theorem num_z : num 0x00000000#32 = 0 := num_zero
theorem num_inf : num 0x7F800000#32 = ⊤ := num_top
theorem num_tiny : num 0x00800000#32 = num (word 1) := rfl
theorem num_two : num 0x40000000#32 = ((2 : ℝ) : EReal) := by
  rw [show num 0x40000000#32 = num (word 128) from rfl, num_pow 128 (by norm_num) (by norm_num)]; norm_num
theorem num_one : num 0x3F800000#32 = ((1 : ℝ) : EReal) := by
  rw [show num 0x3F800000#32 = num (word 127) from rfl, num_pow 127 (by norm_num) (by norm_num)]; norm_num

/-- The factor one over 448, rounded. -/
def c448 : ℝ := 9586981 * (2 : ℝ) ^ (-32 : ℤ)

theorem num_c : num 0x3B124925#32 = (c448 : EReal) := by
  simp [num, Ideal.ofBits, Ideal.ieee, c448, -EReal.coe_mul]

theorem c448_pos : 0 < c448 := by unfold c448; positivity

theorem c448_lt : c448 < (2 : ℝ) ^ (-8 : ℤ) := by unfold c448; norm_num

/-! ## The search -/

theorem word_or : ∀ j < 8, ∀ n < 256, n % 2 ^ (j + 1) = 0 → word n ||| BitVec.ofNat 32 (2 ^ (23 + j)) = word (n + 2 ^ j) := by
  decide +kernel

/-- What the search knows after the bits from `j` up. -/
def Inv (y : EReal) (j : ℕ) (z : BitVec 32) : Prop :=
  ∃ n, z = word n ∧ n % 2 ^ j = 0 ∧ n + 2 ^ j ≤ 256 ∧ num (word n) ≤ y ∧ (n + 2 ^ j ≤ 255 → y < num (word (n + 2 ^ j)))

theorem inv_step (y : EReal) (j : ℕ) (hj : j < 8) (z b : BitVec 32) (hb : b = BitVec.ofNat 32 (2 ^ (23 + j)))
    (h : Inv y (j + 1) z) : Inv y j (stepS y b z) := by
  obtain ⟨n, rfl, h0, h1, h2, h3⟩ := h
  have hp : 2 ^ (j + 1) = 2 ^ j + 2 ^ j := by ring
  have e : IntOp.ori (word n) b = word (n + 2 ^ j) := by
    rw [hb]; exact word_or j hj n (by have := Nat.pos_of_ne_zero (pow_ne_zero j (two_ne_zero)); omega) h0
  have hd : n % 2 ^ j = 0 := Nat.mod_eq_zero_of_dvd (dvd_trans (pow_dvd_pow 2 (Nat.le_succ j)) (Nat.dvd_of_mod_eq_zero h0))
  unfold stepS
  rw [e]
  by_cases hc : num (word (n + 2 ^ j)) ≤ y
  · have : Ideal.cmp .ole (num (word (n + 2 ^ j))) y = 1 := by simp [Ideal.cmp, hc]
    rw [this]
    refine ⟨n + 2 ^ j, rfl, by simp [hd], by omega, hc, fun h => ?_⟩
    have := h3 (by omega)
    rwa [show n + 2 ^ (j + 1) = n + 2 ^ j + 2 ^ j by omega] at this
  · have : Ideal.cmp .ole (num (word (n + 2 ^ j))) y = 0 := by simp [Ideal.cmp, hc]
    rw [this]
    exact ⟨n, rfl, hd, by omega, h2, fun _ => not_le.1 hc⟩

/-- The search ends at the word of the greatest power of two at most `y`. -/
theorem search_spec (y : EReal) (hy : 0 ≤ y) :
    ∃ n, searchS y = word n ∧ n ≤ 255 ∧ num (word n) ≤ y ∧ (n + 1 ≤ 255 → y < num (word (n + 1))) := by
  have h8 : Inv y 8 0#32 := ⟨0, rfl, rfl, by norm_num, by rw [num_zero]; exact hy, fun h => absurd h (by norm_num)⟩
  have h7 := inv_step y 7 (by norm_num) _ 1073741824#32 rfl h8
  have h6 := inv_step y 6 (by norm_num) _ 536870912#32 rfl h7
  have h5 := inv_step y 5 (by norm_num) _ 268435456#32 rfl h6
  have h4 := inv_step y 4 (by norm_num) _ 134217728#32 rfl h5
  have h3 := inv_step y 3 (by norm_num) _ 67108864#32 rfl h4
  have h2 := inv_step y 2 (by norm_num) _ 33554432#32 rfl h3
  have h1 := inv_step y 1 (by norm_num) _ 16777216#32 rfl h2
  obtain ⟨n, e, -, hn, ha, hb⟩ := inv_step y 0 (by norm_num) _ 8388608#32 rfl h1
  exact ⟨n, e, by omega, ha, hb⟩

/-! ## The exponent and the powers -/

theorem expo_ends : expoS (fieldS (word 0)) = 0#32 ∧ expoS (fieldS (word 255)) = 0#32 := by decide +kernel

theorem pow2_words : ∀ n < 247, 1 ≤ n →
    IntOp.shli .vector (IntOp.addi (expoS (fieldS (word n))) 127#32) 23#32 = word (n + 1)
    ∧ IntOp.shli .vector (IntOp.addi (IntOp.subi 0#32 (expoS (fieldS (word n)))) 127#32) 23#32 = word (253 - n) := by
  decide +kernel

theorem pow2_zero : pow2S 0#32 = 1 ∧ pow2S (IntOp.subi 0#32 0#32) = 1 := by
  have h : IntOp.shli .vector (IntOp.addi 0#32 127#32) 23#32 = 0x3F800000#32 := by decide +kernel
  have h' : IntOp.shli .vector (IntOp.addi (IntOp.subi 0#32 0#32) 127#32) 23#32 = 0x3F800000#32 := by decide +kernel
  unfold pow2S
  rw [h, h', num_one]
  exact ⟨rfl, rfl⟩

theorem exp2_zero : Ideal.exp2 (0 : EReal) = 1 := by
  rw [show (0 : EReal) = ((0 : ℝ) : EReal) from rfl]
  show ((Real.rpow 2 0 : ℝ) : EReal) = 1
  simp

theorem exp2_int (k : ℤ) : Ideal.exp2 (((k : ℝ) : ℝ) : EReal) = (((2 : ℝ) ^ k : ℝ) : EReal) := by
  show ((Real.rpow 2 (k : ℝ) : ℝ) : EReal) = _
  rw [Real.rpow_eq_pow, Real.rpow_intCast]

/-- The floor of a logarithm between two powers of two. -/
theorem floor_log (r : ℝ) (k : ℤ) (h1 : (2 : ℝ) ^ k ≤ r) (h2 : r < (2 : ℝ) ^ (k + 1)) :
    ⌊Real.log r * (Real.log 2)⁻¹⌋ = k := by
  have hl : 0 < Real.log 2 := Real.log_pos (by norm_num)
  have hr : 0 < r := lt_of_lt_of_le (by positivity) h1
  rw [← div_eq_mul_inv, Int.floor_eq_iff, le_div_iff₀ hl, div_lt_iff₀ hl]
  constructor
  · rw [← Real.log_zpow]; exact Real.log_le_log (by positivity) h1
  · have := Real.log_lt_log hr h2
    rw [Real.log_zpow] at this
    push_cast at this
    exact this

theorem cmp_oeq (x y : EReal) : Ideal.cmp .oeq x y = if x = y then 1#1 else 0#1 := by
  by_cases h : x = y <;> simp [Ideal.cmp, h]

theorem cmp_olt (x y : EReal) : Ideal.cmp .olt x y = if x < y then 1#1 else 0#1 := by
  by_cases h : x < y <;> simp [Ideal.cmp, h]

/-- The reference's exponent is zero where the quotient is below the normal numbers. -/
theorem rExp_small (a : EReal) (h : a * num 0x3B124925#32 < num (word 1)) : rExp a = 0 := by
  have hf : flush (a * num 0x3B124925#32) = 0 := by
    unfold flush; rw [cmp_olt, num_tiny, if_pos h, num_z]; rfl
  unfold rExp
  rw [hf]
  simp only [cmp_oeq, num_z, if_true]
  by_cases ha : a = 0
  · simp [ha, Scalar.select]
  · simp only [ha, if_false]
    rw [show IntOp.ori 1#1 (if (0 : EReal) = num 0x7F800000#32 then 1#1 else 0#1) = 1#1 by split <;> rfl]
    rfl

/-- And where the largest magnitude is infinite. -/
theorem rExp_top : rExp ⊤ = 0 := by
  have ht : (⊤ : EReal) * num 0x3B124925#32 = ⊤ := by
    rw [num_c]; exact EReal.top_mul_coe_of_pos c448_pos
  have hf : flush ((⊤ : EReal) * num 0x3B124925#32) = ⊤ := by
    unfold flush; rw [ht, cmp_olt, if_neg not_top_lt]; rfl
  unfold rExp
  rw [hf]
  simp only [cmp_oeq, num_z, num_inf, if_true]
  rw [if_neg EReal.top_ne_zero]
  rfl

/-- Between two powers of two it is the upper one's. -/
theorem rExp_mid (a : ℝ) (n : ℕ) (h1 : 1 ≤ n) (h2 : (2 : ℝ) ^ ((n : ℤ) - 127) ≤ a * c448)
    (h3 : a * c448 < (2 : ℝ) ^ ((n : ℤ) - 126)) : rExp (a : EReal) = ((((n : ℤ) - 126 : ℤ) : ℝ) : EReal) := by
  have hpos : 0 < a * c448 := lt_of_lt_of_le (by positivity) h2
  have hr : (a : EReal) * num 0x3B124925#32 = ((a * c448 : ℝ) : EReal) := by rw [num_c, ← EReal.coe_mul]
  have hf : flush ((a : EReal) * num 0x3B124925#32) = ((a * c448 : ℝ) : EReal) := by
    unfold flush
    rw [hr, cmp_olt, if_neg]
    · rfl
    · rw [num_tiny, num_pow 1 le_rfl (by norm_num), not_lt, EReal.coe_le_coe_iff]
      refine le_trans (zpow_le_zpow_right₀ (by norm_num) ?_) h2
      push_cast; omega
  have ha : a ≠ 0 := by rintro rfl; simp at hpos
  have hlog : Ideal.log ((a * c448 : ℝ) : EReal) = ((Real.log (a * c448) : ℝ) : EReal) := by
    show (if a * c448 ≤ 0 then (⊥ : EReal) else _) = _
    rw [if_neg (not_le.2 hpos)]
  have hlog2 : Ideal.log (num 0x40000000#32) = ((Real.log 2 : ℝ) : EReal) := by
    rw [num_two]
    show (if (2 : ℝ) ≤ 0 then (⊥ : EReal) else _) = _
    rw [if_neg (by norm_num)]
  have hl2 : Real.log 2 ≠ 0 := (Real.log_pos (by norm_num)).ne'
  have hdiv : Ideal.div ((Real.log (a * c448) : ℝ) : EReal) ((Real.log 2 : ℝ) : EReal)
      = ((Real.log (a * c448) * (Real.log 2)⁻¹ : ℝ) : EReal) := by
    rw [Ideal.div, if_neg (by exact_mod_cast hl2), EReal.coe_mul, EReal.coe_inv]
  unfold rExp
  rw [hf]
  simp only [cmp_oeq, num_z, num_inf, hlog, hlog2, hdiv]
  rw [if_neg (by exact_mod_cast ha), if_neg (by exact_mod_cast hpos.ne'), if_neg (EReal.coe_ne_top _), num_one]
  show ((⌊Real.log (a * c448) * (Real.log 2)⁻¹⌋ : ℝ) : EReal) + ((1 : ℝ) : EReal) = _
  rw [floor_log _ ((n : ℤ) - 127) h2 (by rwa [show (n : ℤ) - 127 + 1 = (n : ℤ) - 126 by ring]), ← EReal.coe_add]
  congr 1
  push_cast; ring

/-- The largest number of the narrow format the rows come in. -/
def bmax : ℝ := 255 * (2 : ℝ) ^ (120 : ℤ)

/-- A group's largest magnitude as the precondition has it: a number of the narrow format's range or infinite. -/
def Ok (a : EReal) : Prop := 0 ≤ a ∧ (a ≤ (bmax : EReal) ∨ a = ⊤)

/-- The kernel's scale and inverse are the reference's. -/
theorem scale_eq (a : EReal) (h : Ok a) :
    kScale a = Ideal.exp2 (rExp a) ∧ kInv a = Ideal.exp2 (num 0x00000000#32 - rExp a) := by
  obtain ⟨h0, hB⟩ := h
  rw [num_z]
  rcases hB with hB | rfl
  · obtain ⟨r, rfl⟩ : ∃ r : ℝ, a = r := by
      induction a using EReal.rec with
      | bot => simp at h0
      | top => simp at hB
      | coe r => exact ⟨r, rfl⟩
    have hr0 : 0 ≤ r := by exact_mod_cast h0
    have hrB : r ≤ bmax := by exact_mod_cast hB
    have hc := c448_pos
    have hm0 : 0 ≤ r * c448 := by positivity
    have hmul : (r : EReal) * num 0x3B124925#32 = ((r * c448 : ℝ) : EReal) := by rw [num_c, ← EReal.coe_mul]
    have hmag : magS (r : EReal) = ((r * c448 : ℝ) : EReal) := by
      unfold magS
      rw [hmul]
      refine max_eq_left ?_
      rw [← EReal.coe_neg, EReal.coe_le_coe_iff]; linarith
    have hlt : r * c448 < (2 : ℝ) ^ (120 : ℤ) := by
      have h1 : r * c448 ≤ bmax * (2 : ℝ) ^ (-8 : ℤ) := mul_le_mul hrB c448_lt.le hc.le (by unfold bmax; positivity)
      refine lt_of_le_of_lt h1 ?_
      unfold bmax; norm_num
    obtain ⟨n, hs, hn, hlo, hhi⟩ := search_spec (magS (r : EReal)) (by rw [hmag]; exact_mod_cast hm0)
    rw [hmag] at hlo hhi
    have hn246 : n ≤ 246 := by
      by_contra hcon
      rcases Nat.eq_or_lt_of_le hn with rfl | hn'
      · rw [num_top] at hlo; exact absurd hlo (not_le.2 (EReal.coe_lt_top _))
      · rw [num_pow n (by omega) (by omega), EReal.coe_le_coe_iff] at hlo
        have : (2 : ℝ) ^ (120 : ℤ) ≤ (2 : ℝ) ^ ((n : ℤ) - 127) := zpow_le_zpow_right₀ (by norm_num) (by omega)
        linarith
    rcases Nat.eq_zero_or_pos n with rfl | hn1
    · have hk : kExp (r : EReal) = 0#32 := by unfold kExp; rw [hs]; exact expo_ends.1
      have hr : rExp (r : EReal) = 0 := rExp_small _ (by rw [hmul]; exact hhi (by norm_num))
      unfold kScale kInv
      rw [hk, hr, pow2_zero.1, pow2_zero.2, sub_zero, exp2_zero]
      exact ⟨rfl, rfl⟩
    · have hhi' := hhi (by omega)
      rw [num_pow (n + 1) (by omega) (by omega), EReal.coe_lt_coe_iff] at hhi'
      rw [num_pow n hn1 (by omega), EReal.coe_le_coe_iff] at hlo
      have hr := rExp_mid r n hn1 hlo (by
        rwa [show ((n + 1 : ℕ) : ℤ) - 127 = (n : ℤ) - 126 by push_cast; ring] at hhi')
      obtain ⟨p1, p2⟩ := pow2_words n (by omega) hn1
      have k1 : kScale (r : EReal) = num (word (n + 1)) := by unfold kScale kExp pow2S; rw [hs, p1]
      have k2 : kInv (r : EReal) = num (word (253 - n)) := by unfold kInv kExp pow2S; rw [hs, p2]
      rw [k1, k2, hr, exp2_int, num_pow (n + 1) (by omega) (by omega), num_pow (253 - n) (by omega) (by omega), zero_sub,
        ← EReal.coe_neg, ← Int.cast_neg, exp2_int]
      constructor
      · congr 2; push_cast; ring
      · congr 2; push_cast [Nat.cast_sub (show n ≤ 253 by omega)]; ring
  · have ht : magS ⊤ = ⊤ := by
      unfold magS
      rw [num_c, EReal.top_mul_coe_of_pos c448_pos]; simp
    obtain ⟨n, hs, hn, -, hhi⟩ := search_spec (magS ⊤) (by rw [ht]; exact le_top)
    have : n = 255 := by
      by_contra hcon
      have := hhi (by omega)
      rw [ht] at this
      exact not_top_lt this
    subst this
    have hk : kExp ⊤ = 0#32 := by unfold kExp; rw [hs]; exact expo_ends.2
    unfold kScale kInv
    rw [hk, rExp_top, pow2_zero.1, pow2_zero.2, sub_zero, exp2_zero]
    exact ⟨rfl, rfl⟩

end Cert.Hand

end
-- ==== Proof.GroupK.lean ====
/- The kernel's quantiser read at an index, over the reals: every buffer it fills, in terms of a group's largest
   magnitude and the scale that magnitude gets. -/
module

public import proofs.«01_k».proof.Proof.Blocks
public import proofs.«01_k».proof.Proof.Scale
public import Idealize.ShloMosaic.Lib.Pipeline.Value
public import Idealize.ShloMosaic.Lib.ValueIdx
public import Idealize.ShloMosaic.Lib.ValueLayout
public import Idealize.ShloMosaic.Lib.ValueLayoutCasts

@[expose] public section

set_option maxRecDepth 16384

noncomputable section

namespace Cert.Hand

open Idealize.ShloMosaic Idealize.ShloMosaic.ValueIdx

/-- Column `c` of group `k` of row `r`. -/
def gi (r : Fin 48) (k : Fin 32) (c : Fin 128) : (⟨2, ![48, 4096]⟩ : Shape).Idx := ix2 r ⟨128 * k.val + c.val, by omega⟩

/-- The largest magnitude of group `k` of row `r`. -/
def gmax (x : (⟨2, ![48, 4096]⟩ : Shape).Idx → EReal) (r : Fin 48) (k : Fin 32) : EReal :=
  (Finset.univ : Finset (Fin 128)).fold max (num 0xFF800000#32) fun c => max (x (gi r k c)) (-(x (gi r k c)))

/-- A number clipped to ±448. -/
def clipS (v : EReal) : EReal := min (num 0x43E00000#32) (max (num 0xC3E00000#32) v)

/-- A broadcast column read at an index. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A shape cast to the same shape is the identity. -/
theorem cast_self {α : Type} {s : Shape} (x : s.Idx → α) (h : s.ShapeCasts s) (j : s.Idx) : shapeCast s x h j = x j :=
  shapeCast_apply x h j j rfl

end Cert.Hand

namespace Cert.KernelIdeal.Hand

open Idealize.ShloMosaic Idealize.ShloMosaic.TcCoe Idealize.ShloMosaic.ValueIdx Cert.KernelIdeal Cert.KernelIdeal.Gen Cert.Hand

variable (x : Vec Ideal S48x4096 .bf16)

theorem rC_idx (r : Fin 48) (k : Fin 32) (c : Fin 128) : (rC k.val).emb (ix2 r c) = gi r k c := by
  funext a
  match a with
  | ⟨0, _⟩ => exact Fin.ext (show 0 + 1 * r.val = r.val by omega)
  | ⟨1, _⟩ => exact Fin.ext (show 128 * (k.val % 32) + 1 * c.val = 128 * k.val + c.val by omega)

theorem grp_apply (r : Fin 48) (k : Fin 32) (c : Fin 128) : grp x k.val (ix2 r c) = x (gi r k c) := by
  show shapeCast S48x128 (View.ld x (rC k.val)) _ (ix2 r c) = _
  exact (cast_self (s := S48x128) (α := EReal) (View.ld x (rC k.val)) _ (ix2 r c)).trans (congrArg x (rC_idx r k c))

theorem mag_apply (r : Fin 48) (k : Fin 32) : mag (grp x k.val) (ix2 r (0 : Fin 1)) = magS (gmax x r k) := by
  have e : shapeCast S48x1 (multiReduction .maximumf [1] S48 (absf (grp x k.val)) 0xFF800000#32 reduces_S48x128_S48 (.inl rfl) rfl)
      shapeCasts_S48_S48x1 (ix2 r (0 : Fin 1)) = gmax x r k := by
    rw [shapeCast_a_a1_apply]
    refine (Ideal.multiReduction_maximumf_single (absf (grp x k.val)) 0xFF800000#32 reduces_S48x128_S48 (.inl rfl) rfl (ix1 r)).trans ?_
    unfold gmax
    refine congrArg (Finset.fold max _ · _) (funext fun c => ?_)
    have hl : reduces_S48x128_S48.lift (ix1 r) c = ix2 r c := by
      funext a
      match a with
      | ⟨0, _⟩ => rfl
      | ⟨1, _⟩ => rfl
    show max (grp x k.val (reduces_S48x128_S48.lift (ix1 r) c)) (-(grp x k.val (reduces_S48x128_S48.lift (ix1 r) c))) = _
    rw [hl]
    erw [grp_apply x r k c]
  show max (shapeCast S48x1 _ _ (ix2 r (0 : Fin 1)) * _) (-(shapeCast S48x1 _ _ (ix2 r (0 : Fin 1)) * _)) = _
  rw [e]
  rfl

theorem step_apply (y : FVec Ideal S48x1 .f32) (b : BitVec 32) (z : IVec S48x1 32) (i : S48x1.Idx) :
    step y b z i = stepS (y i) b (z i) := rfl

theorem search_apply (y : FVec Ideal S48x1 .f32) (i : S48x1.Idx) : search y i = searchS (y i) := by
  unfold search searchS
  simp only [step_apply]
  rfl

theorem field_apply (z : IVec S48x1 32) (i : S48x1.Idx) : field z i = fieldS (z i) := rfl

theorem expo_apply (f : IVec S48x1 32) (i : S48x1.Idx) : expo f i = expoS (f i) := rfl

theorem pow2_apply (e : IVec S48x1 32) (i : S48x1.Idx) : pow2 (F := Ideal) e i = pow2S (e i) := rfl

theorem gexp_apply (r : Fin 48) (k : Fin 32) : gexp (grp x k.val) (ix2 r (0 : Fin 1)) = kExp (gmax x r k) := by
  unfold gexp
  rw [expo_apply, field_apply, search_apply, mag_apply]
  rfl

theorem gscale_apply (r : Fin 48) (k : Fin 32) : gscale (grp x k.val) (ix2 r (0 : Fin 1)) = kScale (gmax x r k) := by
  unfold gscale
  rw [pow2_apply, gexp_apply]
  rfl

/-- The number a column's code stands for. -/
def qK (r : Fin 48) (k : Fin 32) (c : Fin 128) : EReal := clipS (x (gi r k c) * kInv (gmax x r k))

theorem gq_apply (r : Fin 48) (k : Fin 32) (c : Fin 128) : gq (grp x k.val) (ix2 r c) = qK x r k c := by
  unfold gq qK clipS
  rw [minimumf_apply, maximumf_apply, mulf_apply, grp_apply, bcast_col, pow2_apply]
  show min _ (max _ (_ * pow2S (IntOp.subi 0#32 (gexp (grp x k.val) (ix2 r (0 : Fin 1)))))) = _
  rw [gexp_apply]
  rfl

/-! ## The buffers -/

theorem codeL_apply (r : Fin 48) (k : Fin 32) (c : Fin 128) :
    ∀ n, k.val < n → n ≤ 32 → View.canon (codeL x n) (gi r k c) = qK x r k c
  | 0, h, _ => absurd h (Nat.not_lt_zero _)
  | n + 1, h, hn => by
    by_cases e : k.val = n
    · subst e
      show View.canon (⟨rC k.val, codeP x k.val⟩ :: codeL x k.val) (gi r k c) = _
      rw [← rC_idx r k c, View.canon_cons_emb]
      exact gq_apply x r k c
    · show View.canon (⟨rC n, codeP x n⟩ :: codeL x n) (gi r k c) = _
      rw [View.canon_cons_of_not_mem]
      · exact codeL_apply r k c n (by omega) (by omega)
      · intro hm
        have hm : gi r k c ∈ (rC n).set := hm
        have := Rect.mem_set_unit.1 hm 1
        have h1 : 128 * (n % 32) ≤ 128 * k.val + c.val := this.1
        have h2 : 128 * k.val + c.val < 128 * (n % 32) + 128 := this.2
        omega

theorem codesOf_apply (r : Fin 48) (k : Fin 32) (c : Fin 128) : codesOf x (gi r k c) = qK x r k c :=
  codeL_apply x r k c 32 k.isLt le_rfl

theorem scales_apply (r : Fin 48) (k : Fin 32) : ∀ n, k.val < n → n ≤ 32 → scales x n (ix2 r k) = kScale (gmax x r k)
  | 0, h, _ => absurd h (Nat.not_lt_zero _)
  | n + 1, h, hn => by
    have e : scales x (n + 1) (ix2 r k) = Scalar.select (IntOp.cmpi .eq (BitVec.ofNat 32 k.val) (BitVec.ofNat 32 n))
        (broadcastTo S48x32 (shapeCast S48x1 (gscale (grp x n)) shapeCasts_S48x1_S48x1) broadcasts_S48x1_S48x32 (ix2 r k))
        (scales x n (ix2 r k)) := by
      show Scalar.select (IntOp.cmpi .eq (iota .tc S48x32 32 [1] iota_S48x32_d1_w32 (ix2 r k)) (BitVec.ofNat 32 n)) _ _ = _
      congr 2
      simp [iota]
    rw [e]
    by_cases hk : k.val = n
    · subst hk
      rw [show IntOp.cmpi .eq (BitVec.ofNat 32 k.val) (BitVec.ofNat 32 k.val) = 1#1 by simp [IntOp.cmpi], select_one, bcast_col,
        cast_self]
      exact gscale_apply x r k
    · rw [show IntOp.cmpi .eq (BitVec.ofNat 32 k.val) (BitVec.ofNat 32 n) = 0#1 by
        have : BitVec.ofNat 32 k.val ≠ BitVec.ofNat 32 n := by
          intro hc
          have := congrArg BitVec.toNat hc
          simp only [BitVec.toNat_ofNat] at this
          omega
        show BitVec.ofBool _ = _; rw [beq_eq_false_iff_ne.2 this]; rfl, select_zero]
      exact scales_apply r k n (by omega) (by omega)

theorem scalesOf_apply (r : Fin 48) (k : Fin 32) : scalesOf x (ix2 r k) = kScale (gmax x r k) := by
  unfold scalesOf
  rw [View.canon_cons_unit_zero (by funext a; fin_cases a <;> rfl)]
  exact scales_apply x r k 32 k.isLt le_rfl

end Cert.KernelIdeal.Hand

end
-- ==== Proof.ProdK.lean ====
/- The kernel's product read at an index, over the reals: a chunk's column is the running sum over the groups of
   the group's dot product, times its scale, times the weights' scale. -/
module

public import proofs.«01_k».proof.Proof.GroupK
public import Idealize.ShloMosaic.Lib.MatmulPlain

@[expose] public section

set_option maxRecDepth 16384

noncomputable section

namespace Cert.Hand

open Idealize.ShloMosaic Idealize.ShloMosaic.ValueIdx
open scoped BigOperators

/-- A natural as a group's number. -/
def kf (i : ℕ) : Fin 32 := ⟨i % 32, Nat.mod_lt _ (by norm_num)⟩

theorem kf_val (i : ℕ) (h : i < 32) : (kf i).val = i := Nat.mod_eq_of_lt h

/-- The term of group `i`: the dot product of codes and weights, times the two scales. -/
def tm (q wv : Fin 32 → Fin 128 → EReal) (s u : Fin 32 → EReal) (i : ℕ) : EReal :=
  (num 0x00000000#32 + ∑ c : Fin 128, q (kf i) c * wv (kf i) c) * s (kf i) * u (kf i)

/-- A running sum, in order. -/
def rs (t : ℕ → EReal) : ℕ → EReal
  | 0 => t 0
  | i + 1 => rs t i + t (i + 1)

/-- Column `c` of group `k` of a row of weights. -/
def wi {n : ℕ} (j : Fin n) (k : Fin 32) (c : Fin 128) : (⟨2, ![n, 4096]⟩ : Shape).Idx := ix2 j ⟨128 * k.val + c.val, by omega⟩

/-- A sum over two groups' columns whose second half vanishes, and whose first half does. -/
theorem sum_left (f : Fin 256 → EReal) (g : Fin 128 → EReal) (h1 : ∀ c : Fin 128, f ⟨c.val, by omega⟩ = g c)
    (h2 : ∀ c : Fin 128, f ⟨128 + c.val, by omega⟩ = 0) : ∑ c, f c = ∑ c, g c := by
  rw [show (∑ c, f c) = ∑ c : Fin (128 + 128), f c from rfl, Fin.sum_univ_add]
  rw [show (∑ i : Fin 128, f (Fin.natAdd 128 i)) = 0 from Finset.sum_eq_zero fun c _ => h2 c, add_zero]
  exact Finset.sum_congr rfl fun c _ => h1 c

@[inherit_doc sum_left]
theorem sum_right (f : Fin 256 → EReal) (g : Fin 128 → EReal) (h1 : ∀ c : Fin 128, f ⟨c.val, by omega⟩ = 0)
    (h2 : ∀ c : Fin 128, f ⟨128 + c.val, by omega⟩ = g c) : ∑ c, f c = ∑ c, g c := by
  rw [show (∑ c, f c) = ∑ c : Fin (128 + 128), f c from rfl, Fin.sum_univ_add]
  rw [show (∑ i : Fin 128, f (Fin.castAdd 128 i)) = 0 from Finset.sum_eq_zero fun c _ => h1 c, zero_add]
  exact Finset.sum_congr rfl fun c _ => h2 c

end Cert.Hand

namespace Cert.KernelIdeal.Hand

open Idealize.ShloMosaic Idealize.ShloMosaic.TcCoe Idealize.ShloMosaic.ValueIdx Cert.KernelIdeal Cert.KernelIdeal.Gen Cert.Hand
open scoped BigOperators

variable (x : Vec Ideal S48x4096 .bf16)

/-! ## The padded left operand -/

theorem zero_apply (i : S48x128.Idx) : zeroHalf (F := Ideal) i = 0 := num_z

/-- An index of one half of a pass's columns. -/
abbrev li (p : Fin 16) (R : Fin 96) (b : ℕ) (hb : b < 2) (c : Fin 128) : S16x96x256.Idx :=
  ix3 p R ⟨128 * b + c.val, by omega⟩

theorem rL_idx (p : Fin 16) (R : Fin 96) (b : ℕ) (hb : b < 2) (c : Fin 128) :
    (rL (2 * p.val + b)).emb (ix3 (0 : Fin 1) R c) = li p R b hb c := by
  funext a
  match a with
  | ⟨0, _⟩ => exact Fin.ext (show (2 * p.val + b) / 2 % 16 + 1 * 0 = p.val by omega)
  | ⟨1, _⟩ => exact Fin.ext (show 0 + 1 * R.val = R.val by omega)
  | ⟨2, _⟩ => exact Fin.ext (show 128 * ((2 * p.val + b) % 2) + 1 * c.val = 128 * b + c.val by omega)

theorem rL_not_mem (p : Fin 16) (R : Fin 96) (b : ℕ) (hb : b < 2) (c : Fin 128) (n : ℕ) (hn : n < 32) (h : n ≠ 2 * p.val + b) :
    li p R b hb c ∉ (rL n).set := by
  intro hm
  have h0 := Rect.mem_set_unit.1 hm 0
  have h2 := Rect.mem_set_unit.1 hm 2
  have a1 : n / 2 % 16 ≤ p.val := h0.1
  have a2 : p.val < n / 2 % 16 + 1 := h0.2
  have c1 : 128 * (n % 2) ≤ 128 * b + c.val := h2.1
  have c2 : 128 * b + c.val < 128 * (n % 2) + 128 := h2.2
  omega

/-- A store behind another that misses the index, and the store that holds it. -/
theorem skip {S : Shape} (e : EltTy) (r : Rect S) (P : r.shape.Idx → Elt Ideal e) (L : List (View.Piece (Elt Ideal) S e))
    {y : S.Idx} (h : y ∉ r.set) : View.canon (⟨r, P⟩ :: L) y = View.canon L y := View.canon_cons_of_not_mem _ _ h

@[inherit_doc skip]
theorem hit {S : Shape} (e : EltTy) (r : Rect S) (P : r.shape.Idx → Elt Ideal e) (L : List (View.Piece (Elt Ideal) S e))
    {y : S.Idx} (j : r.shape.Idx) (h : r.emb j = y) : View.canon (⟨r, P⟩ :: L) y = P j := by
  subst h; exact View.canon_cons_emb _ _ _ _

theorem lhsL_even (p : Fin 16) (R : Fin 96) (c : Fin 128) : ∀ n, p.val < n → n ≤ 16 →
    View.canon (lhsL x n) (li p R 0 (by norm_num) c) = lhsEven x (2 * p.val) (ix3 (0 : Fin 1) R c)
  | 0, h, _ => absurd h (Nat.not_lt_zero _)
  | n + 1, h, hn => by
    refine (skip .fp8e4m3 (rL (2 * n + 1)) (lhsOdd x (2 * n + 1)) _
      (rL_not_mem p R 0 (by norm_num) c (2 * n + 1) (by omega) (by omega))).trans ?_
    by_cases e : n = p.val
    · rw [e]
      exact hit .fp8e4m3 (rL (2 * p.val)) (lhsEven x (2 * p.val)) _ (ix3 (0 : Fin 1) R c) (rL_idx p R 0 (by norm_num) c)
    · exact (skip .fp8e4m3 (rL (2 * n)) (lhsEven x (2 * n)) _
        (rL_not_mem p R 0 (by norm_num) c (2 * n) (by omega) (by omega))).trans (lhsL_even p R c n (by omega) (by omega))

theorem lhsL_odd (p : Fin 16) (R : Fin 96) (c : Fin 128) : ∀ n, p.val < n → n ≤ 16 →
    View.canon (lhsL x n) (li p R 1 (by norm_num) c) = lhsOdd x (2 * p.val + 1) (ix3 (0 : Fin 1) R c)
  | 0, h, _ => absurd h (Nat.not_lt_zero _)
  | n + 1, h, hn => by
    by_cases e : n = p.val
    · rw [e]
      exact hit .fp8e4m3 (rL (2 * p.val + 1)) (lhsOdd x (2 * p.val + 1)) _ (ix3 (0 : Fin 1) R c) (rL_idx p R 1 (by norm_num) c)
    · exact (skip .fp8e4m3 (rL (2 * n + 1)) (lhsOdd x (2 * n + 1)) _
        (rL_not_mem p R 1 (by norm_num) c (2 * n + 1) (by omega) (by omega))).trans
        ((skip .fp8e4m3 (rL (2 * n)) (lhsEven x (2 * n)) _
          (rL_not_mem p R 1 (by norm_num) c (2 * n) (by omega) (by omega))).trans (lhsL_odd p R c n (by omega) (by omega)))

/-- Two halves, one above the other, read at a row. -/
theorem stack_top (A B : FVec Ideal S48x128 .f32) (r : Fin 48) (c : Fin 128) :
    concatenate S96x128 0 [⟨S48x128, A⟩, ⟨S48x128, B⟩] concatenates_S48x128_S48x128_S96x128_d0 (ix2 (⟨r.val, by omega⟩ : Fin 96) c)
      = A (ix2 r c) :=
  concatenate_pair_apply_left (t := S96x128) (s₁ := S48x128) (s₂ := S48x128) 0 A B _ _ rfl (ix2 r c) fun b => by
    match b with
    | ⟨0, _⟩ => rfl
    | ⟨1, _⟩ => rfl

@[inherit_doc stack_top]
theorem stack_bot (A B : FVec Ideal S48x128 .f32) (r : Fin 48) (c : Fin 128) :
    concatenate S96x128 0 [⟨S48x128, A⟩, ⟨S48x128, B⟩] concatenates_S48x128_S48x128_S96x128_d0
      (ix2 (⟨48 + r.val, by omega⟩ : Fin 96) c) = B (ix2 r c) :=
  concatenate_pair_apply_right (t := S96x128) (s₁ := S48x128) (s₂ := S48x128) 0 A B _ _ rfl rfl (ix2 r c)
    (fun b hb => by
      match b with
      | ⟨0, _⟩ => exact absurd rfl hb
      | ⟨1, _⟩ => rfl)
    (Nat.add_comm r.val 48)

theorem even_apply (k : ℕ) (R : Fin 96) (c : Fin 128) : lhsEven x k (ix3 (0 : Fin 1) R c)
    = concatenate S96x128 0 [⟨S48x128, gq (grp x k)⟩, ⟨S48x128, zeroHalf⟩] concatenates_S48x128_S48x128_S96x128_d0 (ix2 R c) :=
  shapeCast_ab_1ab_apply _ _ _ _ _

theorem odd_apply (k : ℕ) (R : Fin 96) (c : Fin 128) : lhsOdd x k (ix3 (0 : Fin 1) R c)
    = concatenate S96x128 0 [⟨S48x128, zeroHalf⟩, ⟨S48x128, gq (grp x k)⟩] concatenates_S48x128_S48x128_S96x128_d0 (ix2 R c) :=
  shapeCast_ab_1ab_apply _ _ _ _ _

theorem lhs_top (p : Fin 16) (r : Fin 48) (c : Fin 128) :
    lhsOf x (li p ⟨r.val, by omega⟩ 0 (by norm_num) c) = qK x r (kf (2 * p.val)) c
    ∧ lhsOf x (li p ⟨r.val, by omega⟩ 1 (by norm_num) c) = 0 := by
  constructor
  · refine (lhsL_even x p _ c 16 p.isLt le_rfl).trans ?_
    rw [even_apply, stack_top, ← gq_apply, kf_val _ (by omega)]
  · refine (lhsL_odd x p _ c 16 p.isLt le_rfl).trans ?_
    rw [odd_apply, stack_top]
    exact zero_apply _

theorem lhs_bot (p : Fin 16) (r : Fin 48) (c : Fin 128) :
    lhsOf x (li p ⟨48 + r.val, by omega⟩ 0 (by norm_num) c) = 0
    ∧ lhsOf x (li p ⟨48 + r.val, by omega⟩ 1 (by norm_num) c) = qK x r (kf (2 * p.val + 1)) c := by
  constructor
  · refine (lhsL_even x p _ c 16 p.isLt le_rfl).trans ?_
    rw [even_apply, stack_bot]
    exact zero_apply _
  · refine (lhsL_odd x p _ c 16 p.isLt le_rfl).trans ?_
    rw [odd_apply, stack_bot, ← gq_apply, kf_val _ (by omega)]

/-! ## The spread scales -/

theorem rXS_idx (k : Fin 32) (r : Fin 48) (c : Fin 128) : (rXS k.val).emb (ix3 (0 : Fin 1) r c) = ix3 k r c := by
  funext a
  match a with
  | ⟨0, _⟩ => exact Fin.ext (show k.val % 32 + 1 * 0 = k.val by omega)
  | ⟨1, _⟩ => exact Fin.ext (show 0 + 1 * r.val = r.val by omega)
  | ⟨2, _⟩ => exact Fin.ext (show 0 + 1 * c.val = c.val by omega)

theorem xsP_apply (k : Fin 32) (r : Fin 48) (c : Fin 128) : xsP x k.val (ix3 (0 : Fin 1) r c) = kScale (gmax x r k) := by
  unfold xsP
  rw [shapeCast_ab_1ab_apply, bcast_col, cast_self]
  exact gscale_apply x r k

theorem rXS_not_mem (k : Fin 32) (r : Fin 48) (c : Fin 128) (n : ℕ) (hn : n < 32) (h : n ≠ k.val) :
    (ix3 k r c : S32x48x128.Idx) ∉ (rXS n).set := by
  intro hm
  have h0 := Rect.mem_set_unit.1 hm 0
  have h1 : n % 32 ≤ k.val := h0.1
  have h2 : k.val < n % 32 + 1 := h0.2
  omega

theorem xsL_apply (k : Fin 32) (r : Fin 48) (c : Fin 128) : ∀ n, k.val < n → n ≤ 32 →
    View.canon (xsL x n) (ix3 k r c) = kScale (gmax x r k)
  | 0, h, _ => absurd h (Nat.not_lt_zero _)
  | n + 1, h, hn => by
    by_cases e : n = k.val
    · rw [e]
      exact (hit .f32 (rXS k.val) (xsP x k.val) _ (ix3 (0 : Fin 1) r c) (rXS_idx k r c)).trans (xsP_apply x k r c)
    · exact (skip .f32 (rXS n) (xsP x n) _ (rXS_not_mem k r c n (by omega) e)).trans (xsL_apply k r c n (by omega) (by omega))

theorem xsOf_apply (k : Fin 32) (r : Fin 48) (c : Fin 128) : xsOf x (ix3 k r c) = kScale (gmax x r k) :=
  xsL_apply x k r c 32 k.isLt le_rfl

/-- Two halves side by side, both a constant along a row. -/
theorem beside (A B : FVec Ideal S48x128 .f32) (r : Fin 48) (j : Fin 256) (v : EReal) (hA : ∀ c, A (ix2 r c) = v) (hB : ∀ c, B (ix2 r c) = v) :
    concatenate S48x256 1 [⟨S48x128, A⟩, ⟨S48x128, B⟩] concatenates_S48x128_S48x128_S48x256_d1 (ix2 r j) = v := by
  by_cases hj : j.val < 128
  · rw [← hA ⟨j.val, hj⟩]
    exact concatenate_pair_apply_left 1 A B _ (ix2 r j) rfl (ix2 r (⟨j.val, hj⟩ : Fin 128)) fun b => by
      match b with
      | ⟨0, _⟩ => rfl
      | ⟨1, _⟩ => rfl
  · rw [← hB ⟨j.val - 128, by omega⟩]
    exact concatenate_pair_apply_right 1 A B _ (ix2 r j) rfl rfl (ix2 r (⟨j.val - 128, by omega⟩ : Fin 128))
      (fun b hb => by
        match b with
        | ⟨0, _⟩ => rfl
        | ⟨1, _⟩ => exact absurd rfl hb)
      (show j.val - 128 + 128 = j.val by omega)

theorem xsRow_apply (k : Fin 32) (r : Fin 48) (j : Fin 256) : xsRow (xsOf x) k.val (ix2 r j) = kScale (gmax x r k) := by
  have e : ∀ c : Fin 128, shapeCast S48x128 (View.ld (xsOf x) (rXS k.val)) shapeCasts_S1x48x128_S48x128 (ix2 r c)
      = kScale (gmax x r k) := fun c =>
    (shapeCast_1ab_ab_apply (α := EReal) (View.ld (xsOf x) (rXS k.val)) shapeCasts_S1x48x128_S48x128 r c).trans
      ((congrArg (xsOf x) (rXS_idx k r c)).trans (xsOf_apply x k r c))
  exact beside _ _ r j _ e e

/-! ## A chunk -/

section Chunk

variable (w : Vec Ideal S1024x4096 .fp8e4m3) (ws : Vec Ideal S32x1024 .f32)

/-- Column `j` of chunk `n` in its block. -/
def cj (n : Fin 4) (j : Fin 256) : Fin 1024 := ⟨256 * n.val + j.val, by omega⟩

theorem wsRow_apply (k : Fin 32) (n : Fin 4) (r : Fin 48) (j : Fin 256) :
    wsRow ws k.val n.val (ix2 r j) = ws (ix2 k (cj n j)) := by
  unfold wsRow
  rw [broadcastTo_1b_ab_apply]
  refine (cast_self (s := S1x256) (α := EReal) (View.ld ws (rS k.val n.val)) _ _).trans (congrArg ws ?_)
  funext a
  match a with
  | ⟨0, _⟩ => exact Fin.ext (show k.val % 32 + 1 * 0 = k.val by omega)
  | ⟨1, _⟩ => exact Fin.ext (show 256 * (n.val % 4) + 1 * j.val = 256 * n.val + j.val by omega)

theorem pass_apply (n : Fin 4) (p : Fin 16) (R : Fin 96) (j : Fin 256) :
    pass (lhsOf x) w n.val p.val (ix2 R j) = num 0x00000000#32
      + ∑ c : Fin 256, lhsOf x (ix3 p R c) * w (ix2 (cj n j) (⟨256 * p.val + c.val, by omega⟩ : Fin 4096)) := by
  refine (Ideal.matmul_transposedRhs_apply (M := 96) (K := 256) (N := 256) none _ _ _ R j).trans ?_
  refine congrArg₂ (· + ·) rfl (Finset.sum_congr rfl fun c _ => congrArg₂ (· * ·) ?_ (congrArg w ?_))
  · refine (shapeCast_1ab_ab_apply (α := EReal) (View.ld (lhsOf x) (rP p.val)) shapeCasts_S1x96x256_S96x256 R c).trans
      (congrArg (lhsOf x) ?_)
    funext a
    match a with
    | ⟨0, _⟩ => exact Fin.ext (show p.val % 16 + 1 * 0 = p.val by omega)
    | ⟨1, _⟩ => exact Fin.ext (show 0 + 1 * R.val = R.val by omega)
    | ⟨2, _⟩ => exact Fin.ext (show 0 + 1 * c.val = c.val by omega)
  · funext a
    match a with
    | ⟨0, _⟩ => exact Fin.ext (show 256 * (n.val % 4) + 1 * j.val = 256 * n.val + j.val by omega)
    | ⟨1, _⟩ => exact Fin.ext (show 256 * (p.val % 16) + 1 * c.val = 256 * p.val + c.val by omega)

/-- The term of group `i` at row `r` and column `J` of the block. -/
abbrev tK (r : Fin 48) (J : Fin 1024) : ℕ → EReal :=
  tm (qK x r) (fun k c => w (wi J k c)) (fun k => kScale (gmax x r k)) (fun k => ws (ix2 k J))

theorem term0_apply (n : Fin 4) (p : Fin 16) (r : Fin 48) (j : Fin 256) :
    term0 (lhsOf x) (xsOf x) w ws n.val p.val (ix2 r j) = tK x w ws r (cj n j) (2 * p.val) := by
  have hk := kf_val (2 * p.val) (by omega)
  unfold term0
  rw [mulf_apply, mulf_apply, slice2_axis0_apply 0 _ _ r j (⟨r.val, by omega⟩ : Fin 96) (by simp), pass_apply]
  rw [show xsRow (xsOf x) (2 * p.val) = xsRow (xsOf x) (kf (2 * p.val)).val by rw [hk],
    show wsRow ws (2 * p.val) n.val = wsRow ws (kf (2 * p.val)).val n.val by rw [hk], xsRow_apply, wsRow_apply]
  refine congrArg (fun s => (num 0x00000000#32 + s) * _ * _) (sum_left _ _ (fun c => ?_) fun c => ?_)
  · refine congrArg₂ (· * ·) ((congrArg (lhsOf x) ?_).trans (lhs_top x p r c).1) (congrArg w ?_)
    · exact congrArg (ix3 p _) (Fin.ext (show c.val = 128 * 0 + c.val by omega))
    · exact congrArg (ix2 (cj n j)) (Fin.ext (show 256 * p.val + c.val = 128 * (kf (2 * p.val)).val + c.val by omega))
  · rw [(lhs_top x p r c).2, zero_mul]

theorem term1_apply (n : Fin 4) (p : Fin 16) (r : Fin 48) (j : Fin 256) :
    term1 (lhsOf x) (xsOf x) w ws n.val p.val (ix2 r j) = tK x w ws r (cj n j) (2 * p.val + 1) := by
  have hk := kf_val (2 * p.val + 1) (by omega)
  unfold term1
  rw [mulf_apply, mulf_apply, slice2_axis0_apply 48 _ _ r j (⟨48 + r.val, by omega⟩ : Fin 96) rfl, pass_apply]
  rw [show xsRow (xsOf x) (2 * p.val + 1) = xsRow (xsOf x) (kf (2 * p.val + 1)).val by rw [hk],
    show wsRow ws (2 * p.val + 1) n.val = wsRow ws (kf (2 * p.val + 1)).val n.val by rw [hk], xsRow_apply, wsRow_apply]
  refine congrArg (fun s => (num 0x00000000#32 + s) * _ * _) (sum_right _ _ (fun c => ?_) fun c => ?_)
  · have h := (lhs_bot x p r c).1
    rw [show (li p (⟨48 + r.val, by omega⟩ : Fin 96) 0 (by norm_num) c : S16x96x256.Idx)
      = ix3 p (⟨48 + r.val, by omega⟩ : Fin 96) (⟨c.val, by omega⟩ : Fin 256) from
        congrArg (ix3 p _) (Fin.ext (show 128 * 0 + c.val = c.val by omega))] at h
    rw [h, zero_mul]
  · refine congrArg₂ (· * ·) (lhs_bot x p r c).2 (congrArg w ?_)
    exact congrArg (ix2 (cj n j)) (Fin.ext (show 256 * p.val + (128 + c.val) = 128 * (kf (2 * p.val + 1)).val + c.val by omega))

theorem acc_apply (n : Fin 4) (r : Fin 48) (j : Fin 256) : ∀ p < 16,
    acc (lhsOf x) (xsOf x) w ws n.val p (ix2 r j) = rs (tK x w ws r (cj n j)) (2 * p + 1)
  | 0, _ => congrArg₂ (· + ·) (term0_apply x w ws n 0 r j) (term1_apply x w ws n 0 r j)
  | p + 1, h => by
    show acc (lhsOf x) (xsOf x) w ws n.val p (ix2 r j) + term0 (lhsOf x) (xsOf x) w ws n.val (p + 1) (ix2 r j)
      + term1 (lhsOf x) (xsOf x) w ws n.val (p + 1) (ix2 r j) = _
    rw [acc_apply n r j p (by omega)]
    erw [term0_apply x w ws n ⟨p + 1, h⟩ r j, term1_apply x w ws n ⟨p + 1, h⟩ r j]
    rfl

theorem rY_idx (n : Fin 4) (r : Fin 48) (j : Fin 256) : (rY n.val).emb (ix2 r j) = ix2 r (cj n j) := by
  funext a
  match a with
  | ⟨0, _⟩ => exact Fin.ext (show 0 + 1 * r.val = r.val by omega)
  | ⟨1, _⟩ => exact Fin.ext (show 256 * (n.val % 4) + 1 * j.val = 256 * n.val + j.val by omega)

theorem rY_not_mem (n : Fin 4) (r : Fin 48) (j : Fin 256) (k : ℕ) (hk : k < 4) (h : k ≠ n.val) :
    (ix2 r (cj n j) : S48x1024.Idx) ∉ (rY k).set := by
  intro hm
  have h1 := Rect.mem_set_unit.1 hm 1
  have a1 : 256 * (k % 4) ≤ 256 * n.val + j.val := h1.1
  have a2 : 256 * n.val + j.val < 256 * (k % 4) + 256 := h1.2
  omega

/-- The block of the product at row `r` and column `j` of chunk `n`. -/
theorem yOf_chunk (n : Fin 4) (r : Fin 48) (j : Fin 256) :
    yOf (lhsOf x) (xsOf x) w ws (ix2 r (cj n j)) = rs (tK x w ws r (cj n j)) 31 := by
  have key : yOf (lhsOf x) (xsOf x) w ws (ix2 r (cj n j)) = chunk (lhsOf x) (xsOf x) w ws n.val (ix2 r j) := by
    unfold yOf yL
    have nm := rY_not_mem n r j
    have e := rY_idx n r j
    fin_cases n
    · exact (skip .bf16 (rY 3) (chunk (lhsOf x) (xsOf x) w ws 3) _ (nm 3 (by norm_num) (by norm_num))).trans
        ((skip .bf16 (rY 2) (chunk (lhsOf x) (xsOf x) w ws 2) _ (nm 2 (by norm_num) (by norm_num))).trans
          ((skip .bf16 (rY 1) (chunk (lhsOf x) (xsOf x) w ws 1) _ (nm 1 (by norm_num) (by norm_num))).trans
            (hit .bf16 (rY 0) (chunk (lhsOf x) (xsOf x) w ws 0) _ _ e)))
    · exact (skip .bf16 (rY 3) (chunk (lhsOf x) (xsOf x) w ws 3) _ (nm 3 (by norm_num) (by norm_num))).trans
        ((skip .bf16 (rY 2) (chunk (lhsOf x) (xsOf x) w ws 2) _ (nm 2 (by norm_num) (by norm_num))).trans
          (hit .bf16 (rY 1) (chunk (lhsOf x) (xsOf x) w ws 1) _ _ e))
    · exact (skip .bf16 (rY 3) (chunk (lhsOf x) (xsOf x) w ws 3) _ (nm 3 (by norm_num) (by norm_num))).trans
        (hit .bf16 (rY 2) (chunk (lhsOf x) (xsOf x) w ws 2) _ _ e)
    · exact hit .bf16 (rY 3) (chunk (lhsOf x) (xsOf x) w ws 3) _ _ e
  rw [key]
  exact acc_apply x w ws n r j 15 (by norm_num)

/-- The same at any column. -/
theorem yOf_apply (r : Fin 48) (J : Fin 1024) :
    yOf (lhsOf x) (xsOf x) w ws (ix2 r J) = rs (tK x w ws r J) 31 := by
  have h : J = cj (⟨J.val / 256, by omega⟩ : Fin 4) (⟨J.val % 256, by omega⟩ : Fin 256) :=
    Fin.ext (show J.val = 256 * (J.val / 256) + J.val % 256 by omega)
  rw [h]
  exact yOf_chunk x w ws _ r _

end Chunk

end Cert.KernelIdeal.Hand

end
-- ==== Proof.ArrK.lean ====
/- The kernel's three result arrays after the run, over the reals, as functions of the argument arrays. -/
module

public import proofs.«01_k».proof.Proof.ProdK
public import proofs.«01_k».proof.Proof.Track
public import Idealize.ShloMosaic.Lib.Pipeline.ValueKit

@[expose] public section

set_option maxRecDepth 16384

noncomputable section

namespace Cert.KernelIdeal.Hand

open Idealize.ShloMosaic hiding ix2 eq_ix2
open Idealize.ShloMosaic.TcCoe Idealize.ShloMosaic.ValueIdx Cert.KernelIdeal Cert.KernelIdeal.Gen Cert.Hand
open Idealize.ShloMosaic.Pipeline (Dat)

variable (m : (ℓ : Loc nD τ sig) → Buf (Elt Ideal) ℓ)

/-- The activations as a matrix, the weights, and the weights' scales with the groups first. -/
def X (c : Dev nD) : Vec Ideal S48x4096 .bf16 := V m c main_v0
@[inherit_doc X]
def W (c : Dev nD) : Vec Ideal S14336x4096 .fp8e4m3 := V m c main_arg1
@[inherit_doc X]
def WS (c : Dev nD) : Vec Ideal S32x14336 .f32 := V m c main_v1

theorem index0 : ∀ t : Fin cfg0.N, win0_0.index t = ![0, 0] := (by decide +kernel : ∀ t : Fin grid0.N, win0_0.index t = ![0, 0])
theorem index1 : ∀ t : Fin cfg0.N, win0_1.index t = ![t.val, 0] := (by decide +kernel : ∀ t : Fin grid0.N, win0_1.index t = ![t.val, 0])
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])

theorem xin_eq (c : Dev nD) : xin m c = X m c := by
  funext y
  unfold xin X
  blk_simp [iblk]
  refine congrArg _ ?_
  blk_ext [index0]

/-- Column `J` of point `t`'s block, in the whole array. -/
def col (t : Fin cfg0.N) (J : Fin 1024) : Fin 14336 := ⟨1024 * t.val + J.val, by have : t.val < 14 := t.isLt; omega⟩

theorem w_apply (c : Dev nD) (t : Fin cfg0.N) (J : Fin 1024) (k : Fin 32) (a : Fin 128) :
    (iblk m c 1 t : Vec Ideal S1024x4096 .fp8e4m3) (wi J k a) = W m c (wi (col t J) k a) := by
  unfold W
  blk_simp [iblk]
  refine congrArg _ ?_
  funext b
  match b with
  | ⟨0, _⟩ => exact Fin.ext (by blk_simp [index1]; show t.val * 1024 + J.val = 1024 * t.val + J.val; omega)
  | ⟨1, _⟩ => exact Fin.ext (by blk_simp [index1]; rfl)

theorem ws_apply (c : Dev nD) (t : Fin cfg0.N) (J : Fin 1024) (k : Fin 32) :
    (iblk m c 2 t : Vec Ideal S32x1024 .f32) (ix2 k J) = WS m c (ix2 k (col t J)) := by
  unfold WS
  blk_simp [iblk]
  refine congrArg _ ?_
  funext b
  match b with
  | ⟨0, _⟩ => exact Fin.ext (by blk_simp [index2])
  | ⟨1, _⟩ => exact Fin.ext (by blk_simp [index2]; show t.val * 1024 + J.val = 1024 * t.val + J.val; omega)

/-- The product's array. -/
def G3 (x : Vec Ideal S48x4096 .bf16) (w : Vec Ideal S14336x4096 .fp8e4m3) (ws : Vec Ideal S32x14336 .f32) : Vec Ideal S48x14336 .bf16 :=
  fun i => rs (tm (qK x (i 0)) (fun k a => w (wi (i 1) k a)) (fun k => kScale (gmax x (i 0) k)) (fun k => ws (ix2 k (i 1)))) 31

theorem yblk_apply (c : Dev nD) (t : Fin cfg0.N) (r : Fin 48) (J : Fin 1024) :
    yblk m c t (ix2 r J) = G3 (X m c) (W m c) (WS m c) (ix2 r (col t J)) := by
  unfold yblk
  rw [xin_eq]
  refine (yOf_apply (X m c) _ _ r J).trans ?_
  show rs (tm _ _ _ _) 31 = rs (tm _ _ _ _) 31
  congr 2
  · funext k a; exact w_apply m c t J k a
  · funext k; exact ws_apply m c t J k

theorem final3 (c : Dev nD) : (dats m 0 c).arrAt 3 cfg0.N = G3 (X m c) (W m c) (WS m c) := by
  refine (dats m 0 c).arrAt_eq_of_covers 3 _ (by decide +kernel) fun t hf y => ?_
  have hy : ((cfg0.win 3).blk t).view.emb y = (ix2 (y 0) (col t (y 1)) : S48x14336.Idx) := by
    funext b
    match b with
    | ⟨0, _⟩ => exact Fin.ext (by blk_simp [index3]; rfl)
    | ⟨1, _⟩ => exact Fin.ext (by blk_simp [index3]; show t.val * 1024 + (y 1).val = 1024 * t.val + (y 1).val; omega)
  rw [hy]
  blk_simp
  rw [after0_3]
  exact (congrArg _ (eq_ix2 (n0 := 48) (n1 := 1024) y)).trans (yblk_apply m c t (y 0) (y 1))

theorem whole4 : (cfg0.win 4).WholeAt (⟨13, by decide⟩ : Fin cfg0.N) := by decide +kernel
theorem whole5 : (cfg0.win 5).WholeAt (⟨13, by decide⟩ : Fin cfg0.N) := by decide +kernel

theorem final4 (c : Dev nD) : (dats m 0 c).arrAt 4 cfg0.N = codesOf (X m c) := by
  refine (dats m 0 c).arrAt_eq_of_after_last 4 _ whole4 _ fun j => ?_
  rw [after0_4, xin_eq]
  rfl

theorem final5 (c : Dev nD) : (dats m 0 c).arrAt 5 cfg0.N = scalesOf (X m c) := by
  refine (dats m 0 c).arrAt_eq_of_after_last 5 _ whole5 _ fun j => ?_
  rw [after0_5, xin_eq]
  rfl

/-! ## The operands, from the arguments -/

theorem X_eq (c : Dev nD) : X m c = shapeCast S48x4096 (m ((c : Thread nD τ).loc main_arg0)) shapeCasts_S48x1x4096_S48x4096 := rfl
theorem W_eq (c : Dev nD) : W m c = m ((c : Thread nD τ).loc main_arg1) := V_main_arg1 m c
theorem WS_eq (c : Dev nD) : WS m c = transpose S32x14336 [1, 0] (m ((c : Thread nD τ).loc main_arg2)) transposes_S14336x32_S32x14336_1_0 := rfl

end Cert.KernelIdeal.Hand

end
-- ==== Proof.GroupR.lean ====
/- The reference read at an index, over the reals: its scales and codes in terms of a group's largest magnitude, and its
   product as the running sum over the groups. -/
module

public import proofs.«01_k».proof.Proof.GroupK
public import proofs.«01_k».proof.Proof.Gen.ReferenceIdeal.Frame
public import Idealize.ShloMosaic.Lib.MatmulPlain

@[expose] public section

set_option maxRecDepth 65536

noncomputable section

namespace Cert.ReferenceIdeal.Hand

open Idealize.ShloMosaic Idealize.ShloMosaic.TcCoe Idealize.ShloMosaic.ValueIdx Cert.ReferenceIdeal Cert.ReferenceIdeal.Gen Cert.Hand

/-! ## The quantiser -/

section Quantiser

variable (x : Vec Ideal S48x4096 .bf16)

theorem split_apply (r : Fin 48) (k : Fin 32) (c : Fin 128) : k0_pay2 x (ix3 r k c) = x (gi r k c) := by
  show shapeCast S48x32x128 (shapeCast S48x4096 x _) _ (ix3 r k c) = _
  refine (shapeCast_apply _ _ (ix3 r k c) (gi r k c) ?_).trans (cast_self x _ _)
  rw [Shape.rowMajor_val_two, Shape.rowMajor_val_three]
  show r.val * 4096 + (128 * k.val + c.val) = (r.val * 32 + k.val) * 128 + c.val
  omega

/-- The largest magnitudes. -/
def amax : FVec Ideal S48x32 .f32 :=
  multiReduction .maximumf [2] S48x32 (absf (k0_pay2 x)) 0xFF800000#32 reduces_S48x32x128_S48x32 (.inl rfl) rfl

theorem amax_apply (r : Fin 48) (k : Fin 32) : amax x (ix2 r k) = gmax x r k := by
  refine (Ideal.multiReduction_maximumf_single (absf (k0_pay2 x)) 0xFF800000#32 reduces_S48x32x128_S48x32 (.inl rfl) rfl (ix2 r k)).trans ?_
  unfold gmax
  refine congrArg (Finset.fold max _ · _) (funext fun c => ?_)
  have hl : reduces_S48x32x128_S48x32.lift (ix2 r k) c = ix3 r k c := by
    funext a
    match a with
    | ⟨0, _⟩ => rfl
    | ⟨1, _⟩ => rfl
    | ⟨2, _⟩ => rfl
  show max (k0_pay2 x (reduces_S48x32x128_S48x32.lift (ix2 r k) c)) (-(k0_pay2 x (reduces_S48x32x128_S48x32.lift (ix2 r k) c))) = _
  rw [hl]
  erw [split_apply x r k c]

theorem exp_apply (r : Fin 48) (k : Fin 32) : k0_pay3 x (ix2 r k) = rExp (gmax x r k) := by
  rw [← amax_apply]
  unfold k0_pay3 amax
  generalize multiReduction FKind.maximumf [2] S48x32 (absf (k0_pay2 x)) 0xFF800000#32 reduces_S48x32x128_S48x32 (.inl rfl) rfl = v
  rfl

theorem scale_apply (r : Fin 48) (k : Fin 32) : k0_pay4 x (ix2 r k) = Ideal.exp2 (rExp (gmax x r k)) := by
  rw [← exp_apply]
  unfold k0_pay4
  generalize k0_pay3 x = v
  rfl

theorem code_apply (r : Fin 48) (k : Fin 32) (c : Fin 128) :
    k0_pay5 x (gi r k c) = clipS (x (gi r k c) * Ideal.exp2 (num 0x00000000#32 - rExp (gmax x r k))) := by
  have e : ∀ V : FVec Ideal S48x32x128 .f32, (truncf .fp8e4m3 (shapeCast S48x4096 V shapeCasts_S48x32x128_S48x4096)
      bitsLt_fp8e4m3_f32 : FVec Ideal S48x4096 .fp8e4m3) (gi r k c) = V (ix3 r k c) := fun V => by
    rw [truncf_apply]
    refine shapeCast_apply _ _ (gi r k c) (ix3 r k c) ?_
    rw [Shape.rowMajor_val_two, Shape.rowMajor_val_three]
    show (r.val * 32 + k.val) * 128 + c.val = r.val * 4096 + (128 * k.val + c.val)
    omega
  unfold k0_pay5
  refine (e _).trans ?_
  have b : ∀ V : FVec Ideal S48x32 .f32, broadcastTo S48x32x128 (shapeCast S48x32x1 V shapeCasts_S48x32_S48x32x1)
      broadcasts_S48x32x1_S48x32x128 (ix3 r k c) = V (ix2 r k) := fun V => by
    refine (broadcastTo_apply _ _ (ix3 r k c) (ix3 r k (0 : Fin 1)) fun a => ?_).trans
      (shapeCast_apply _ _ (ix3 r k (0 : Fin 1)) (ix2 r k) ?_)
    · match a with
      | ⟨0, _⟩ => rfl
      | ⟨1, _⟩ => rfl
      | ⟨2, _⟩ => rfl
    · rw [Shape.rowMajor_val_two, Shape.rowMajor_val_three]
      show r.val * 32 + k.val = (r.val * 32 + k.val) * 1 + 0
      omega
  rw [← exp_apply]
  have p := split_apply x r k c
  revert p
  generalize k0_pay2 x = u
  generalize k0_pay3 x = v
  intro p
  rw [minimumf_apply, maximumf_apply, mulf_apply, b, p]
  rfl

end Quantiser

/-! ## The product -/

section Product

variable {F : FTy → Type} [FloatOps F]
variable (S : FVec F S48x32 .f32) (C : FVec F S48x4096 .fp8e4m3) (w : Vec F S14336x4096 .fp8e4m3) (ws : Vec F S32x14336 .f32)

/-- Columns `128 i …` of the weights, all rows. -/
abbrev rV (i : ℕ) : Rect S14336x4096 :=
  Rect.unit (s := S14336x4096) ![0, 128 * (i % 32)] S14336x128.size
    (by intro a; fin_cases a <;> simp [S14336x128, S14336x4096] <;> omega)

/-- Row `i` of the weights' scales. -/
abbrev rT (i : ℕ) : Rect S32x14336 :=
  Rect.unit (s := S32x14336) ![i % 32, 0] S1x14336.size (by intro a; fin_cases a <;> simp [S1x14336, S32x14336]; omega)

theorem slicesC (i : ℕ) : S48x4096.Slices ![0, 128 * (i % 32)] S48x128 := by
  refine ⟨rfl, fun a => ?_⟩
  fin_cases a <;> simp [S48x128, S48x4096] <;> omega

theorem slicesS (i : ℕ) : S48x32.Slices ![0, i % 32] S48x1 := by
  refine ⟨rfl, fun a => ?_⟩
  fin_cases a <;> simp [S48x1, S48x32]; omega

/-- The term of group `i`. -/
def term (i : ℕ) : FVec F S48x14336 .f32 :=
  mulf (mulf (matmul dot_S48x128_S14336x128_S48x14336_1_1_0_0_n_n none
      (extractStridedSlice S48x128 ![0, 128 * (i % 32)] C (slicesC i)) (View.ld w (rV i)) (constant S48x14336 .f32 0x00000000#32))
    (broadcastTo S48x14336 (extractStridedSlice S48x1 ![0, i % 32] S (slicesS i)) broadcasts_S48x1_S48x14336))
    (broadcastTo S48x14336 (shapeCast S1x14336 (View.ld ws (rT i)) shapeCasts_S1x14336_S1x14336) broadcasts_S1x14336_S48x14336)

/-- The sum over the groups `0 … i`, in order. -/
def acc : ℕ → FVec F S48x14336 .f32
  | 0 => term S C w ws 0
  | i + 1 => addf (acc i) (term S C w ws (i + 1))

end Product

theorem out3_eq {F : FTy → Type} [FloatOps F] (x0 : Vec F S48x4096 .bf16) (x1 : Vec F S14336x4096 .fp8e4m3) (x2 : Vec F S32x14336 .f32) :
    out0_3 x0 x1 x2 = View.canon [⟨r0_66, truncf .bf16 (acc (k0_pay24 x0 x1 x2) (k0_pay25 x0 x1 x2) x1 x2 31) bitsLt_bf16_f32⟩] := by
  unfold out0_3
  generalize k0_pay24 x0 x1 x2 = S
  generalize k0_pay25 x0 x1 x2 = C
  rfl

end Cert.ReferenceIdeal.Hand

end
-- ==== Proof.ProdR.lean ====
/- The reference's product read at an index, over the reals. -/
module

public import proofs.«01_k».proof.Proof.GroupR
public import proofs.«01_k».proof.Proof.ProdK

@[expose] public section

set_option maxRecDepth 16384

noncomputable section

namespace Cert.ReferenceIdeal.Hand

open Idealize.ShloMosaic Idealize.ShloMosaic.TcCoe Idealize.ShloMosaic.ValueIdx Cert.ReferenceIdeal Cert.ReferenceIdeal.Gen Cert.Hand
open scoped BigOperators

variable (S : FVec Ideal S48x32 .f32) (C : FVec Ideal S48x4096 .fp8e4m3) (w : Vec Ideal S14336x4096 .fp8e4m3)
  (ws : Vec Ideal S32x14336 .f32)

/-- The term of group `i` at row `r` and column `J`. -/
abbrev tR (r : Fin 48) (J : Fin 14336) : ℕ → EReal :=
  tm (fun k c => C (gi r k c)) (fun k c => w (wi J k c)) (fun k => S (ix2 r k)) (fun k => ws (ix2 k J))

theorem term_apply (k : Fin 32) (r : Fin 48) (J : Fin 14336) : term S C w ws k.val (ix2 r J) = tR S C w ws r J k.val := by
  have hk : kf k.val = k := Fin.ext (kf_val k.val k.isLt)
  unfold term tR tm
  rw [hk, mulf_apply, mulf_apply, bcast_col, broadcastTo_1b_ab_apply]
  refine congrArg₂ (· * ·) (congrArg₂ (· * ·) ?_ ?_) ?_
  · refine (Ideal.matmul_transposedRhs_apply (M := 48) (K := 128) (N := 14336) none _ _ _ r J).trans ?_
    refine congrArg₂ (· + ·) rfl (Finset.sum_congr rfl fun c _ => congrArg₂ (· * ·) ?_ (congrArg w ?_))
    · exact slice2_axis1_apply _ C _ r c _ (show 128 * k.val + c.val = 128 * (k.val % 32) + c.val by omega)
    · funext a
      match a with
      | ⟨0, _⟩ => exact Fin.ext (show 0 + 1 * J.val = J.val by omega)
      | ⟨1, _⟩ => exact Fin.ext (show 128 * (k.val % 32) + 1 * c.val = 128 * k.val + c.val by omega)
  · exact slice2_axis1_apply _ S _ r 0 k (show k.val = k.val % 32 + 0 by omega)
  · refine (cast_self (s := S1x14336) (α := EReal) (View.ld ws (rT k.val)) _ _).trans (congrArg ws ?_)
    funext a
    match a with
    | ⟨0, _⟩ => exact Fin.ext (show k.val % 32 + 1 * 0 = k.val by omega)
    | ⟨1, _⟩ => exact Fin.ext (show 0 + 1 * J.val = J.val by omega)

theorem acc_apply (r : Fin 48) (J : Fin 14336) : ∀ i < 32, acc S C w ws i (ix2 r J) = rs (tR S C w ws r J) i
  | 0, _ => term_apply S C w ws 0 r J
  | i + 1, h => by
    show acc S C w ws i (ix2 r J) + term S C w ws (i + 1) (ix2 r J) = _
    rw [acc_apply r J i (by omega)]
    erw [term_apply S C w ws ⟨i + 1, h⟩ r J]
    rfl

theorem zero_off : (![0, 0] : Fin 2 → ℕ) = fun _ => 0 := by funext a; fin_cases a <;> rfl

section Outputs

variable (x0 : Vec Ideal S48x4096 .bf16) (x1 : Vec Ideal S14336x4096 .fp8e4m3) (x2 : Vec Ideal S32x14336 .f32)

theorem whole : View.ld x0 r0_0 = x0 := View.ld_unit_zero zero_off _ x0

theorem out5_apply (r : Fin 48) (k : Fin 32) : out0_5 x0 x1 x2 (ix2 r k) = Ideal.exp2 (rExp (gmax x0 r k)) := by
  unfold out0_5
  rw [View.canon_cons_unit_zero zero_off]
  unfold k0_pay24
  rw [whole, scale_apply]

theorem out4_apply (r : Fin 48) (k : Fin 32) (c : Fin 128) : out0_4 x0 x1 x2 (gi r k c)
    = clipS (x0 (gi r k c) * Ideal.exp2 (num 0x00000000#32 - rExp (gmax x0 r k))) := by
  unfold out0_4
  rw [View.canon_cons_unit_zero zero_off]
  unfold k0_pay25
  rw [whole, code_apply]

theorem out3_apply (r : Fin 48) (J : Fin 14336) : out0_3 x0 x1 x2 (ix2 r J)
    = rs (tm (fun k c => clipS (x0 (gi r k c) * Ideal.exp2 (num 0x00000000#32 - rExp (gmax x0 r k)))) (fun k c => x1 (wi J k c))
        (fun k => Ideal.exp2 (rExp (gmax x0 r k))) (fun k => x2 (ix2 k J))) 31 := by
  rw [out3_eq, View.canon_cons_unit_zero zero_off]
  refine (acc_apply _ _ x1 x2 r J 31 (by norm_num)).trans ?_
  unfold tR k0_pay24 k0_pay25
  rw [whole]
  simp only [scale_apply, code_apply]

end Outputs

end Cert.ReferenceIdeal.Hand

end
-- ==== Proof.ArrR.lean ====
/- The reference's three result arrays after the run, over the reals, as functions of the argument arrays. -/
module

public import proofs.«01_k».proof.Proof.ProdR
public import Idealize.ShloMosaic.Lib.Pipeline.ValueKit

@[expose] public section

set_option maxRecDepth 16384

noncomputable section

namespace Cert.ReferenceIdeal.Hand

open Idealize.ShloMosaic hiding ix2 eq_ix2
open Idealize.ShloMosaic.TcCoe Idealize.ShloMosaic.ValueIdx Cert.ReferenceIdeal Cert.ReferenceIdeal.Gen Cert.Hand
open Idealize.ShloMosaic.Pipeline (Dat)

variable (m : (ℓ : Loc nD τ sig) → Buf (Elt Ideal) ℓ)

/-- The activations as a matrix, the weights, and the weights' scales with the groups first. -/
def X (c : Dev nD) : Vec Ideal S48x4096 .bf16 := V m c main_v0
@[inherit_doc X]
def W (c : Dev nD) : Vec Ideal S14336x4096 .fp8e4m3 := V m c main_arg1
@[inherit_doc X]
def WS (c : Dev nD) : Vec Ideal S32x14336 .f32 := V m c main_v1

/-- The one grid point. -/
def t0 : Fin cfg0.N := ⟨0, by decide⟩

theorem index0 (t : Fin cfg0.N) : win0_0.index t = ![0, 0] := by funext a; fin_cases a <;> rfl

theorem blk0 (c : Dev nD) (t : Fin cfg0.N) : iblk m c 0 t = X m c := by
  funext y
  unfold X
  blk_simp [iblk]
  refine congrArg _ ?_
  blk_ext [index0]

theorem index1 (t : Fin cfg0.N) : win0_1.index t = ![0, 0] := by funext a; fin_cases a <;> rfl

theorem blk1 (c : Dev nD) (t : Fin cfg0.N) : iblk m c 1 t = W m c := by
  funext y
  unfold W
  blk_simp [iblk]
  refine congrArg _ ?_
  blk_ext [index1]

theorem index2 (t : Fin cfg0.N) : win0_2.index t = ![0, 0] := by funext a; fin_cases a <;> rfl

theorem blk2 (c : Dev nD) (t : Fin cfg0.N) : iblk m c 2 t = WS m c := by
  funext y
  unfold WS
  blk_simp [iblk]
  refine congrArg _ ?_
  blk_ext [index2]

theorem whole3 : (cfg0.win 3).WholeAt t0 := by decide +kernel
theorem whole4 : (cfg0.win 4).WholeAt t0 := by decide +kernel
theorem whole5 : (cfg0.win 5).WholeAt t0 := by decide +kernel

theorem last3 (c : Dev nD) (f : Vec Ideal S48x14336 .bf16) (h : (dats m 0 c).after 3 t0 = f) : (dats m 0 c).arrAt 3 cfg0.N = f := by
  refine (dats m 0 c).arrAt_eq_of_after_last 3 t0 whole3 f fun j => ?_
  rw [h]
  rfl

theorem last4 (c : Dev nD) (f : Vec Ideal S48x4096 .fp8e4m3) (h : (dats m 0 c).after 4 t0 = f) : (dats m 0 c).arrAt 4 cfg0.N = f := by
  refine (dats m 0 c).arrAt_eq_of_after_last 4 t0 whole4 f fun j => ?_
  rw [h]
  rfl

theorem last5 (c : Dev nD) (f : Vec Ideal S48x32 .f32) (h : (dats m 0 c).after 5 t0 = f) : (dats m 0 c).arrAt 5 cfg0.N = f := by
  refine (dats m 0 c).arrAt_eq_of_after_last 5 t0 whole5 f fun j => ?_
  rw [h]
  rfl

/-- The results' arrays are what the body leaves. -/
theorem final3 (c : Dev nD) : (dats m 0 c).arrAt 3 cfg0.N = out0_3 (X m c) (W m c) (WS m c) :=
  last3 m c _ ((after0_3 m c t0).trans (by rw [blk0, blk1, blk2]))

@[inherit_doc final3]
theorem final4 (c : Dev nD) : (dats m 0 c).arrAt 4 cfg0.N = out0_4 (X m c) (W m c) (WS m c) :=
  last4 m c _ ((after0_4 m c t0).trans (by rw [blk0, blk1, blk2]))

@[inherit_doc final3]
theorem final5 (c : Dev nD) : (dats m 0 c).arrAt 5 cfg0.N = out0_5 (X m c) (W m c) (WS m c) :=
  last5 m c _ ((after0_5 m c t0).trans (by rw [blk0, blk1, blk2]))

/-! ## The operands, from the arguments -/

theorem X_eq (c : Dev nD) : X m c = shapeCast S48x4096 (m ((c : Thread nD τ).loc main_arg0)) shapeCasts_S48x1x4096_S48x4096 := rfl
theorem W_eq (c : Dev nD) : W m c = m ((c : Thread nD τ).loc main_arg1) := V_main_arg1 m c
theorem WS_eq (c : Dev nD) : WS m c = transpose S32x14336 [1, 0] (m ((c : Thread nD τ).loc main_arg2)) transposes_S14336x32_S32x14336_1_0 := rfl

end Cert.ReferenceIdeal.Hand

end
-- ==== Proof.Agree.lean ====
/- The three results of the two programs agree over the reals: the kernel's arrays are the reference's at arguments
   within the narrow format's range. -/
module

public import proofs.«01_k».proof.Defs
public import proofs.«01_k».proof.Proof.ArrK
public import proofs.«01_k».proof.Proof.ArrR
public import proofs.«01_k».proof.Proof.Gen.Pre_finite
public import Idealize.ShloMosaic.Lib.ReduceAll

@[expose] public section

set_option maxRecDepth 16384

noncomputable section

namespace Cert.Hand

open Idealize.ShloMosaic hiding ix2 eq_ix2
open Idealize.ShloMosaic.ValueIdx
open scoped BigOperators

/-! ## The precondition -/

/-- A number within the narrow format's range, or infinite. -/
def Fin' (a : EReal) : Prop := max a (-a) ≤ (bmax : EReal) ∨ max a (-a) = ⊤

theorem ofBits_bmax : Ideal.ofBits .bf16 0x7F7F#16 = (bmax : EReal) := by
  simp [Ideal.ofBits, Ideal.ieee, bmax, -EReal.coe_mul]

theorem ofBits_inf : Ideal.ofBits .bf16 0x7F80#16 = ⊤ := by
  simp [Ideal.ofBits, Ideal.ieee]

theorem ofBits_neg_inf : num 0xFF800000#32 = ⊥ := by
  simp [num, Ideal.ofBits, Ideal.ieee]

instance : Subsingleton Cert.Pre_finite.S_.Idx := ⟨fun _ _ => funext fun a => a.elim0⟩

theorem or_one (p q : Bool) (h : IntOp.ori (BitVec.ofBool p) (BitVec.ofBool q) = 1#1) : p = true ∨ q = true := by
  revert h; cases p <;> cases q <;> decide

theorem fin_of_pre (x : FVec Ideal Cert.Pre_finite.S48x1x4096 .bf16) (w : FVec Ideal Cert.Pre_finite.S14336x4096 .fp8e4m3)
    (ws : FVec Ideal Cert.Pre_finite.S14336x32 .f32) (h : Cert.Pre_finite.fn (F := Ideal) x w ws = fun _ => 1#1)
    (i : Cert.Pre_finite.S48x1x4096.Idx) : Fin' (x i) := by
  have e := Host.reduce_andi_all _ _ _ _ _ (congrFun h fun a => a.elim0) i
  have e' : IntOp.ori (Ideal.cmp .ole (max (x i) (-(x i))) (Ideal.ofBits .bf16 0x7F7F#16))
      (Ideal.cmp .oeq (max (x i) (-(x i))) (Ideal.ofBits .bf16 0x7F80#16)) = 1#1 := e
  rw [ofBits_bmax, ofBits_inf] at e'
  unfold Fin'
  rcases or_one _ _ e' with h | h
  · exact Or.inl (by simpa using h)
  · exact Or.inr (by simpa using h)

/-- A group's largest magnitude, of such numbers, is one. -/
theorem gmax_ok (x : (⟨2, ![48, 4096]⟩ : Shape).Idx → EReal) (hx : ∀ i, Fin' (x i)) (r : Fin 48) (k : Fin 32) : Ok (gmax x r k) := by
  have hnn : ∀ a : EReal, 0 ≤ max a (-a) := fun a => by
    rcases le_total 0 a with h | h
    · exact le_max_of_le_left h
    · exact le_max_of_le_right (EReal.neg_nonneg.2 h)
  have key : ∀ s : Finset (Fin 128), s.fold max (num 0xFF800000#32) (fun c => max (x (gi r k c)) (-(x (gi r k c)))) = ⊥
      ∨ Ok (s.fold max (num 0xFF800000#32) fun c => max (x (gi r k c)) (-(x (gi r k c)))) := fun s => by
    induction s using Finset.induction_on with
    | empty => exact Or.inl ofBits_neg_inf
    | insert c s hc ih =>
      rw [Finset.fold_insert hc]
      have h1 : Ok (max (x (gi r k c)) (-(x (gi r k c)))) := ⟨hnn _, hx _⟩
      right
      rcases ih with ih | ih
      · rw [ih, max_bot_right]; exact h1
      · rcases max_choice (max (x (gi r k c)) (-(x (gi r k c))))
          (s.fold max (num 0xFF800000#32) fun c => max (x (gi r k c)) (-(x (gi r k c)))) with e | e
        · rw [e]; exact h1
        · rw [e]; exact ih
  unfold gmax
  rcases key Finset.univ with h | h
  · exfalso
    have h0 : (0 : EReal) ≤ ⊥ := by
      rw [← h, ← Finset.insert_erase (Finset.mem_univ (0 : Fin 128)), Finset.fold_insert (Finset.notMem_erase _ _)]
      exact le_max_of_le_left (hnn _)
    exact absurd h0 (by simp)
  · exact h

/-! ## The values -/

section Values

variable (x : (⟨2, ![48, 4096]⟩ : Shape).Idx → EReal) (hx : ∀ i, Fin' (x i))
include hx

theorem scales_agree (w : Vec Ideal Cert.ReferenceIdeal.S14336x4096 .fp8e4m3) (ws : Vec Ideal Cert.ReferenceIdeal.S32x14336 .f32) :
    Cert.KernelIdeal.Hand.scalesOf (F := Ideal) x = Cert.ReferenceIdeal.Gen.out0_5 (F := Ideal) x w ws := by
  funext i
  rw [eq_ix2 i]
  exact (Cert.KernelIdeal.Hand.scalesOf_apply x (i 0) (i 1)).trans
    ((scale_eq _ (gmax_ok x hx _ _)).1.trans (Cert.ReferenceIdeal.Hand.out5_apply x w ws (i 0) (i 1)).symm)

theorem code_agree (r : Fin 48) (k : Fin 32) (c : Fin 128) : Cert.KernelIdeal.Hand.qK x r k c
    = clipS (x (gi r k c) * Ideal.exp2 (num 0x00000000#32 - rExp (gmax x r k))) := by
  unfold Cert.KernelIdeal.Hand.qK
  rw [(scale_eq _ (gmax_ok x hx r k)).2]

theorem codes_agree (w : Vec Ideal Cert.ReferenceIdeal.S14336x4096 .fp8e4m3) (ws : Vec Ideal Cert.ReferenceIdeal.S32x14336 .f32) :
    Cert.KernelIdeal.Hand.codesOf (F := Ideal) x = Cert.ReferenceIdeal.Gen.out0_4 (F := Ideal) x w ws := by
  funext i
  have hi : i = gi (i 0) (⟨(i 1).val / 128, by have : (i 1).val < 4096 := (i 1).isLt; omega⟩ : Fin 32)
      (⟨(i 1).val % 128, by omega⟩ : Fin 128) := by
    refine (eq_ix2 i).trans (congrArg (ix2 (i 0)) (Fin.ext ?_))
    show (i 1).val = 128 * ((i 1).val / 128) + (i 1).val % 128
    omega
  rw [hi]
  exact (Cert.KernelIdeal.Hand.codesOf_apply x _ _ _).trans
    ((code_agree x hx _ _ _).trans (Cert.ReferenceIdeal.Hand.out4_apply x w ws _ _ _).symm)

theorem product_agrees (w : Vec Ideal Cert.ReferenceIdeal.S14336x4096 .fp8e4m3) (ws : Vec Ideal Cert.ReferenceIdeal.S32x14336 .f32) :
    Cert.KernelIdeal.Hand.G3 x w ws = Cert.ReferenceIdeal.Gen.out0_3 (F := Ideal) x w ws := by
  funext i
  rw [eq_ix2 i]
  refine Eq.trans ?_ (Cert.ReferenceIdeal.Hand.out3_apply x w ws (i 0) (i 1)).symm
  show rs (tm _ _ _ _) 31 = rs (tm _ _ _ _) 31
  congr 2
  · funext k a; exact code_agree x hx (i 0) k a
  · funext k; exact (scale_eq _ (gmax_ok x hx (i 0) k)).1

end Values

end Cert.Hand

/-! ## The two runs -/

namespace Cert.KernelIdeal.Hand

open Idealize.ShloMosaic hiding ix2 eq_ix2
open Idealize.ShloMosaic.TcCoe Cert.KernelIdeal Cert.KernelIdeal.Gen Idealize.SL.Sem

variable (m : (ℓ : Loc nD τ sig) → Buf (Elt Ideal) ℓ) (ρ : Dev nD → PrngReg)

/-- The kernel's run, each result named and the arguments as launched. -/
theorem run_values : θ_run defs (onTc (τ := τ) (main (F := Ideal))) ⟨m, fun _ => 0, ρ⟩ fun r => ∀ c : Dev nD,
      r.2.mem ((c.tc : Thread nD τ).loc main_v2_0) = G3 (X m c) (W m c) (WS m c)
      ∧ r.2.mem ((c.tc : Thread nD τ).loc main_v2_1) = codesOf (X m c)
      ∧ r.2.mem ((c.tc : Thread nD τ).loc main_v2_2) = scalesOf (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Hand

namespace Cert.ReferenceIdeal.Hand

open Idealize.ShloMosaic hiding ix2 eq_ix2
open Idealize.ShloMosaic.TcCoe Cert.ReferenceIdeal Cert.ReferenceIdeal.Gen Idealize.SL.Sem

variable (m : (ℓ : Loc nD τ sig) → Buf (Elt Ideal) ℓ) (ρ : Dev nD → PrngReg)

/-- The reference's run, each result named and the arguments as launched. -/
theorem run_values : θ_run defs (onTc (τ := τ) (main (F := Ideal))) ⟨m, fun _ => 0, ρ⟩ fun r => ∀ c : Dev nD,
      r.2.mem ((c.tc : Thread nD τ).loc main_v2_0) = out0_3 (X m c) (W m c) (WS m c)
      ∧ r.2.mem ((c.tc : Thread nD τ).loc main_v2_1) = out0_4 (X m c) (W m c) (WS m c)
      ∧ r.2.mem ((c.tc : Thread nD τ).loc main_v2_2) = out0_5 (X m c) (W m c) (WS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Hand

namespace Cert.Hand

open Idealize.ShloMosaic hiding ix2 eq_ix2
open Idealize.SL.Sem

/-- The value claim. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hpre hag
  have hX : ∀ c, Cert.ReferenceIdeal.Hand.X m' c = Cert.KernelIdeal.Hand.X m c := fun c => by
    rw [Cert.ReferenceIdeal.Hand.X_eq, Cert.KernelIdeal.Hand.X_eq, (hag c).1]
  have hW : ∀ c, Cert.ReferenceIdeal.Hand.W m' c = Cert.KernelIdeal.Hand.W m c := fun c => by
    rw [Cert.ReferenceIdeal.Hand.W_eq, Cert.KernelIdeal.Hand.W_eq, (hag c).2.1]
  have hS : ∀ c, Cert.ReferenceIdeal.Hand.WS m' c = Cert.KernelIdeal.Hand.WS m c := fun c => by
    rw [Cert.ReferenceIdeal.Hand.WS_eq, Cert.KernelIdeal.Hand.WS_eq, (hag c).2.2]
  have hx : ∀ c i, Fin' (Cert.KernelIdeal.Hand.X m c i) := fun c i => by
    rw [Cert.KernelIdeal.Hand.X_eq]
    exact fin_of_pre _ _ _ (hpre c) _
  refine ⟨fun c => Cert.KernelIdeal.Hand.G3 (Cert.KernelIdeal.Hand.X m c) (Cert.KernelIdeal.Hand.W m c) (Cert.KernelIdeal.Hand.WS m c),
    fun c => Cert.KernelIdeal.Hand.codesOf (Cert.KernelIdeal.Hand.X m c), fun c => Cert.KernelIdeal.Hand.scalesOf (Cert.KernelIdeal.Hand.X m c),
    Cert.KernelIdeal.Hand.run_values m g, ?_⟩
  refine (θ_run _ _ _).mono (fun r h c => ?_) (Cert.ReferenceIdeal.Hand.run_values m' g')
  obtain ⟨h3, h4, h5, ha⟩ := h c
  rw [hX, hW, hS] at h3 h4 h5
  exact ⟨h3.trans (product_agrees _ (hx c) _ _).symm, h4.trans (codes_agree _ (hx c) _ _).symm,
    h5.trans (scales_agree _ (hx c) _ _).symm, ha⟩

end Cert.Hand

end
-- ==== Proof.lean ====
module

public import proofs.«01_k».proof.Defs
public import proofs.«01_k».proof.Proof.KFrameR
public import proofs.«01_k».proof.Proof.Track
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim: the frames, the idealization, and the three results' agreement over the reals. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    trivial, Cert.Hand.algebraic⟩

end Cert.Proof

end
